-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 32, 64]⟩ ⟨4, ![2, 1024, 32, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 32, 64]⟩ ⟨4, ![2, 1024, 32, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S8x2x128x4x64 : Shape := ⟨5, ![8, 2, 128, 4, 64]⟩
abbrev S8x256x64 : Shape := ⟨3, ![8, 256, 64]⟩
abbrev S256x64 : Shape := ⟨2, ![256, 64]⟩
abbrev S4x7 : Shape := ⟨2, ![4, 7]⟩
abbrev S4 : Shape := ⟨1, ![4]⟩
abbrev S_ : Shape := ⟨0, ![]⟩
abbrev S2x128x4x64 : Shape := ⟨4, ![2, 128, 4, 64]⟩
abbrev S1x2x128x4x64 : Shape := ⟨5, ![1, 2, 128, 4, 64]⟩
abbrev S1 : Shape := ⟨1, ![1]⟩
abbrev S1x1 : Shape := ⟨2, ![1, 1]⟩
abbrev S256x256 : Shape := ⟨2, ![256, 256]⟩
abbrev S128x1024 : Shape := ⟨2, ![128, 1024]⟩
abbrev S128x64 : Shape := ⟨2, ![128, 64]⟩
abbrev S8x1x128x1x64 : Shape := ⟨5, ![8, 1, 128, 1, 64]⟩
abbrev S8x128x64 : Shape := ⟨3, ![8, 128, 64]⟩
abbrev S1024x64 : Shape := ⟨2, ![1024, 64]⟩
abbrev S128 : Shape := ⟨1, ![128]⟩
abbrev S128x1 : Shape := ⟨2, ![128, 1]⟩
abbrev S128x256 : Shape := ⟨2, ![128, 256]⟩
abbrev S1x256x64 : Shape := ⟨3, ![1, 256, 64]⟩

abbrev nBuf : Space → Nat
  | .hbm => 6
  | .vmem => 14
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x32x64, .f32⟩
  | .hbm, ⟨3, _⟩ => ⟨S2x128x32x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x32x64, .f32⟩
  | .local _ .vmem, ⟨3, _⟩ => ⟨S2x128x32x64, .f32⟩
  | .local _ .vmem, ⟨4, _⟩ => ⟨S256x512, .f32⟩
  | .local _ .vmem, ⟨5, _⟩ => ⟨S2x128x512, .f32⟩
  | .local _ .vmem, ⟨6, _⟩ => ⟨S8x2x128x4x64, .bf16⟩
  | .local _ .vmem, ⟨7, _⟩ => ⟨S8x2x128x4x64, .bf16⟩
  | .local _ .vmem, ⟨8, _⟩ => ⟨S8x2x128x4x64, .bf16⟩
  | .local _ .vmem, ⟨9, _⟩ => ⟨S8x2x128x4x64, .bf16⟩
  | .local _ .vmem, ⟨10, _⟩ => ⟨S8x256x64, .bf16⟩
  | .local _ .vmem, ⟨11, _⟩ => ⟨S8x256x64, .bf16⟩
  | .local _ .vmem, ⟨12, _⟩ => ⟨S256x64, .bf16⟩
  | .local _ .vmem, ⟨13, _⟩ => ⟨S8x256x64, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_195 : BitVec 32 := 0#32
  let c0_i32_196 : BitVec 32 := 0#32
  let c0_i32_197 : BitVec 32 := 0#32
  let c0_i32_198 : BitVec 32 := 0#32
  ![v2.toNat, 0, 0, 0, 0]
def k0_off2 (d0 : Dev nD) (c1_i32_212 : BitVec 32) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v203 : BitVec 32 := Scalar.addi v2 c1_i32_212
  let c8_i32_213 : BitVec 32 := 8#32
  let c0_i32_214 : BitVec 32 := 0#32
  let v204 : BitVec 1 := Scalar.cmpi .eq c8_i32_213 c0_i32_214
  let c1_i32_215 : BitVec 32 := 1#32
  let v205 : BitVec 32 := Scalar.select v204 c1_i32_215 c8_i32_213
  let v206 : BitVec 32 := Scalar.remsi v203 v205
  let c0_i32_217 : BitVec 32 := 0#32
  let v208 : BitVec 1 := Scalar.cmpi .slt v206 c0_i32_217
  let c0_i32_218 : BitVec 32 := 0#32
  let v209 : BitVec 1 := Scalar.cmpi .slt v205 c0_i32_218
  let v210 : BitVec 1 := Scalar.xori v208 v209
  let c0_i32_216 : BitVec 32 := 0#32
  let v207 : BitVec 1 := Scalar.cmpi .ne v206 c0_i32_216
  let v211 : BitVec 1 := Scalar.andi v210 v207
  let v212 : BitVec 32 := Scalar.addi v206 v205
  let v213 : BitVec 32 := Scalar.select v211 v212 v206
  let c0_i32_229 : BitVec 32 := 0#32
  let c0_i32_230 : BitVec 32 := 0#32
  let c0_i32_231 : BitVec 32 := 0#32
  let c0_i32_232 : BitVec 32 := 0#32
  ![v213.toNat, 0, 0, 0, 0]
def k0_dev8 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_212 : BitVec 32 := 1#32
  let v203 : BitVec 32 := Scalar.addi v2 c1_i32_212
  let c8_i32_213 : BitVec 32 := 8#32
  let c0_i32_214 : BitVec 32 := 0#32
  let v204 : BitVec 1 := Scalar.cmpi .eq c8_i32_213 c0_i32_214
  let c1_i32_215 : BitVec 32 := 1#32
  let v205 : BitVec 32 := Scalar.select v204 c1_i32_215 c8_i32_213
  let v206 : BitVec 32 := Scalar.remsi v203 v205
  let c0_i32_217 : BitVec 32 := 0#32
  let v208 : BitVec 1 := Scalar.cmpi .slt v206 c0_i32_217
  let c0_i32_218 : BitVec 32 := 0#32
  let v209 : BitVec 1 := Scalar.cmpi .slt v205 c0_i32_218
  let v210 : BitVec 1 := Scalar.xori v208 v209
  let c0_i32_216 : BitVec 32 := 0#32
  let v207 : BitVec 1 := Scalar.cmpi .ne v206 c0_i32_216
  let v211 : BitVec 1 := Scalar.andi v210 v207
  let v212 : BitVec 32 := Scalar.addi v206 v205
  let v213 : BitVec 32 := Scalar.select v211 v212 v206
  let c1_i32_223 : BitVec 32 := 1#32
  let v214 : BitVec 32 := Scalar.muli v213 c1_i32_223
  let v215 : BitVec 32 := Scalar.addi c0_i32_224 v214
  v215.toNat
def k0_dev9 (d0 : Dev nD) : Nat :=
  let c0_i32_238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_212 : BitVec 32 := 1#32
  let v203 : BitVec 32 := Scalar.addi v2 c1_i32_212
  let c8_i32_213 : BitVec 32 := 8#32
  let c0_i32_214 : BitVec 32 := 0#32
  let v204 : BitVec 1 := Scalar.cmpi .eq c8_i32_213 c0_i32_214
  let c1_i32_215 : BitVec 32 := 1#32
  let v205 : BitVec 32 := Scalar.select v204 c1_i32_215 c8_i32_213
  let v206 : BitVec 32 := Scalar.remsi v203 v205
  let c0_i32_217 : BitVec 32 := 0#32
  let v208 : BitVec 1 := Scalar.cmpi .slt v206 c0_i32_217
  let c0_i32_218 : BitVec 32 := 0#32
  let v209 : BitVec 1 := Scalar.cmpi .slt v205 c0_i32_218
  let v210 : BitVec 1 := Scalar.xori v208 v209
  let c0_i32_216 : BitVec 32 := 0#32
  let v207 : BitVec 1 := Scalar.cmpi .ne v206 c0_i32_216
  let v211 : BitVec 1 := Scalar.andi v210 v207
  let v212 : BitVec 32 := Scalar.addi v206 v205
  let v213 : BitVec 32 := Scalar.select v211 v212 v206
  let c1_i32_237 : BitVec 32 := 1#32
  let v224 : BitVec 32 := Scalar.muli v213 c1_i32_237
  let v225 : BitVec 32 := Scalar.addi c0_i32_238 v224
  v225.toNat
def k0_dev10 (d0 : Dev nD) : Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_247 : BitVec 32 := 2#32
  let v234 : BitVec 32 := Scalar.addi v2 c2_i32_247
  let c8_i32_248 : BitVec 32 := 8#32
  let c0_i32_249 : BitVec 32 := 0#32
  let v235 : BitVec 1 := Scalar.cmpi .eq c8_i32_248 c0_i32_249
  let c1_i32_250 : BitVec 32 := 1#32
  let v236 : BitVec 32 := Scalar.select v235 c1_i32_250 c8_i32_248
  let v237 : BitVec 32 := Scalar.remsi v234 v236
  let c0_i32_252 : BitVec 32 := 0#32
  let v239 : BitVec 1 := Scalar.cmpi .slt v237 c0_i32_252
  let c0_i32_253 : BitVec 32 := 0#32
  let v240 : BitVec 1 := Scalar.cmpi .slt v236 c0_i32_253
  let v241 : BitVec 1 := Scalar.xori v239 v240
  let c0_i32_251 : BitVec 32 := 0#32
  let v238 : BitVec 1 := Scalar.cmpi .ne v237 c0_i32_251
  let v242 : BitVec 1 := Scalar.andi v241 v238
  let v243 : BitVec 32 := Scalar.addi v237 v236
  let v244 : BitVec 32 := Scalar.select v242 v243 v237
  let c1_i32_258 : BitVec 32 := 1#32
  let v245 : BitVec 32 := Scalar.muli v244 c1_i32_258
  let v246 : BitVec 32 := Scalar.addi c0_i32_259 v245
  v246.toNat
def k0_dev11 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_247 : BitVec 32 := 2#32
  let v234 : BitVec 32 := Scalar.addi v2 c2_i32_247
  let c8_i32_248 : BitVec 32 := 8#32
  let c0_i32_249 : BitVec 32 := 0#32
  let v235 : BitVec 1 := Scalar.cmpi .eq c8_i32_248 c0_i32_249
  let c1_i32_250 : BitVec 32 := 1#32
  let v236 : BitVec 32 := Scalar.select v235 c1_i32_250 c8_i32_248
  let v237 : BitVec 32 := Scalar.remsi v234 v236
  let c0_i32_252 : BitVec 32 := 0#32
  let v239 : BitVec 1 := Scalar.cmpi .slt v237 c0_i32_252
  let c0_i32_253 : BitVec 32 := 0#32
  let v240 : BitVec 1 := Scalar.cmpi .slt v236 c0_i32_253
  let v241 : BitVec 1 := Scalar.xori v239 v240
  let c0_i32_251 : BitVec 32 := 0#32
  let v238 : BitVec 1 := Scalar.cmpi .ne v237 c0_i32_251
  let v242 : BitVec 1 := Scalar.andi v241 v238
  let v243 : BitVec 32 := Scalar.addi v237 v236
  let v244 : BitVec 32 := Scalar.select v242 v243 v237
  let c1_i32_272 : BitVec 32 := 1#32
  let v255 : BitVec 32 := Scalar.muli v244 c1_i32_272
  let v256 : BitVec 32 := Scalar.addi c0_i32_273 v255
  v256.toNat
def k0_dev12 (d0 : Dev nD) : Nat :=
  let c0_i32_294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_282 : BitVec 32 := 3#32
  let v265 : BitVec 32 := Scalar.addi v2 c3_i32_282
  let c8_i32_283 : BitVec 32 := 8#32
  let c0_i32_284 : BitVec 32 := 0#32
  let v266 : BitVec 1 := Scalar.cmpi .eq c8_i32_283 c0_i32_284
  let c1_i32_285 : BitVec 32 := 1#32
  let v267 : BitVec 32 := Scalar.select v266 c1_i32_285 c8_i32_283
  let v268 : BitVec 32 := Scalar.remsi v265 v267
  let c0_i32_287 : BitVec 32 := 0#32
  let v270 : BitVec 1 := Scalar.cmpi .slt v268 c0_i32_287
  let c0_i32_288 : BitVec 32 := 0#32
  let v271 : BitVec 1 := Scalar.cmpi .slt v267 c0_i32_288
  let v272 : BitVec 1 := Scalar.xori v270 v271
  let c0_i32_286 : BitVec 32 := 0#32
  let v269 : BitVec 1 := Scalar.cmpi .ne v268 c0_i32_286
  let v273 : BitVec 1 := Scalar.andi v272 v269
  let v274 : BitVec 32 := Scalar.addi v268 v267
  let v275 : BitVec 32 := Scalar.select v273 v274 v268
  let c1_i32_293 : BitVec 32 := 1#32
  let v276 : BitVec 32 := Scalar.muli v275 c1_i32_293
  let v277 : BitVec 32 := Scalar.addi c0_i32_294 v276
  v277.toNat
def k0_dev13 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_282 : BitVec 32 := 3#32
  let v265 : BitVec 32 := Scalar.addi v2 c3_i32_282
  let c8_i32_283 : BitVec 32 := 8#32
  let c0_i32_284 : BitVec 32 := 0#32
  let v266 : BitVec 1 := Scalar.cmpi .eq c8_i32_283 c0_i32_284
  let c1_i32_285 : BitVec 32 := 1#32
  let v267 : BitVec 32 := Scalar.select v266 c1_i32_285 c8_i32_283
  let v268 : BitVec 32 := Scalar.remsi v265 v267
  let c0_i32_287 : BitVec 32 := 0#32
  let v270 : BitVec 1 := Scalar.cmpi .slt v268 c0_i32_287
  let c0_i32_288 : BitVec 32 := 0#32
  let v271 : BitVec 1 := Scalar.cmpi .slt v267 c0_i32_288
  let v272 : BitVec 1 := Scalar.xori v270 v271
  let c0_i32_286 : BitVec 32 := 0#32
  let v269 : BitVec 1 := Scalar.cmpi .ne v268 c0_i32_286
  let v273 : BitVec 1 := Scalar.andi v272 v269
  let v274 : BitVec 32 := Scalar.addi v268 v267
  let v275 : BitVec 32 := Scalar.select v273 v274 v268
  let c1_i32_307 : BitVec 32 := 1#32
  let v286 : BitVec 32 := Scalar.muli v275 c1_i32_307
  let v287 : BitVec 32 := Scalar.addi c0_i32_308 v286
  v287.toNat
def k0_dev14 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_317 : BitVec 32 := 4#32
  let v296 : BitVec 32 := Scalar.addi v2 c4_i32_317
  let c8_i32_318 : BitVec 32 := 8#32
  let c0_i32_319 : BitVec 32 := 0#32
  let v297 : BitVec 1 := Scalar.cmpi .eq c8_i32_318 c0_i32_319
  let c1_i32_320 : BitVec 32 := 1#32
  let v298 : BitVec 32 := Scalar.select v297 c1_i32_320 c8_i32_318
  let v299 : BitVec 32 := Scalar.remsi v296 v298
  let c0_i32_322 : BitVec 32 := 0#32
  let v301 : BitVec 1 := Scalar.cmpi .slt v299 c0_i32_322
  let c0_i32_323 : BitVec 32 := 0#32
  let v302 : BitVec 1 := Scalar.cmpi .slt v298 c0_i32_323
  let v303 : BitVec 1 := Scalar.xori v301 v302
  let c0_i32_321 : BitVec 32 := 0#32
  let v300 : BitVec 1 := Scalar.cmpi .ne v299 c0_i32_321
  let v304 : BitVec 1 := Scalar.andi v303 v300
  let v305 : BitVec 32 := Scalar.addi v299 v298
  let v306 : BitVec 32 := Scalar.select v304 v305 v299
  let c1_i32_328 : BitVec 32 := 1#32
  let v307 : BitVec 32 := Scalar.muli v306 c1_i32_328
  let v308 : BitVec 32 := Scalar.addi c0_i32_329 v307
  v308.toNat
def k0_dev15 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_317 : BitVec 32 := 4#32
  let v296 : BitVec 32 := Scalar.addi v2 c4_i32_317
  let c8_i32_318 : BitVec 32 := 8#32
  let c0_i32_319 : BitVec 32 := 0#32
  let v297 : BitVec 1 := Scalar.cmpi .eq c8_i32_318 c0_i32_319
  let c1_i32_320 : BitVec 32 := 1#32
  let v298 : BitVec 32 := Scalar.select v297 c1_i32_320 c8_i32_318
  let v299 : BitVec 32 := Scalar.remsi v296 v298
  let c0_i32_322 : BitVec 32 := 0#32
  let v301 : BitVec 1 := Scalar.cmpi .slt v299 c0_i32_322
  let c0_i32_323 : BitVec 32 := 0#32
  let v302 : BitVec 1 := Scalar.cmpi .slt v298 c0_i32_323
  let v303 : BitVec 1 := Scalar.xori v301 v302
  let c0_i32_321 : BitVec 32 := 0#32
  let v300 : BitVec 1 := Scalar.cmpi .ne v299 c0_i32_321
  let v304 : BitVec 1 := Scalar.andi v303 v300
  let v305 : BitVec 32 := Scalar.addi v299 v298
  let v306 : BitVec 32 := Scalar.select v304 v305 v299
  let c1_i32_342 : BitVec 32 := 1#32
  let v317 : BitVec 32 := Scalar.muli v306 c1_i32_342
  let v318 : BitVec 32 := Scalar.addi c0_i32_343 v317
  v318.toNat
def k0_dev16 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_352 : BitVec 32 := 5#32
  let v327 : BitVec 32 := Scalar.addi v2 c5_i32_352
  let c8_i32_353 : BitVec 32 := 8#32
  let c0_i32_354 : BitVec 32 := 0#32
  let v328 : BitVec 1 := Scalar.cmpi .eq c8_i32_353 c0_i32_354
  let c1_i32_355 : BitVec 32 := 1#32
  let v329 : BitVec 32 := Scalar.select v328 c1_i32_355 c8_i32_353
  let v330 : BitVec 32 := Scalar.remsi v327 v329
  let c0_i32_357 : BitVec 32 := 0#32
  let v332 : BitVec 1 := Scalar.cmpi .slt v330 c0_i32_357
  let c0_i32_358 : BitVec 32 := 0#32
  let v333 : BitVec 1 := Scalar.cmpi .slt v329 c0_i32_358
  let v334 : BitVec 1 := Scalar.xori v332 v333
  let c0_i32_356 : BitVec 32 := 0#32
  let v331 : BitVec 1 := Scalar.cmpi .ne v330 c0_i32_356
  let v335 : BitVec 1 := Scalar.andi v334 v331
  let v336 : BitVec 32 := Scalar.addi v330 v329
  let v337 : BitVec 32 := Scalar.select v335 v336 v330
  let c1_i32_363 : BitVec 32 := 1#32
  let v338 : BitVec 32 := Scalar.muli v337 c1_i32_363
  let v339 : BitVec 32 := Scalar.addi c0_i32_364 v338
  v339.toNat
def k0_dev17 (d0 : Dev nD) : Nat :=
  let c0_i32_378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_352 : BitVec 32 := 5#32
  let v327 : BitVec 32 := Scalar.addi v2 c5_i32_352
  let c8_i32_353 : BitVec 32 := 8#32
  let c0_i32_354 : BitVec 32 := 0#32
  let v328 : BitVec 1 := Scalar.cmpi .eq c8_i32_353 c0_i32_354
  let c1_i32_355 : BitVec 32 := 1#32
  let v329 : BitVec 32 := Scalar.select v328 c1_i32_355 c8_i32_353
  let v330 : BitVec 32 := Scalar.remsi v327 v329
  let c0_i32_357 : BitVec 32 := 0#32
  let v332 : BitVec 1 := Scalar.cmpi .slt v330 c0_i32_357
  let c0_i32_358 : BitVec 32 := 0#32
  let v333 : BitVec 1 := Scalar.cmpi .slt v329 c0_i32_358
  let v334 : BitVec 1 := Scalar.xori v332 v333
  let c0_i32_356 : BitVec 32 := 0#32
  let v331 : BitVec 1 := Scalar.cmpi .ne v330 c0_i32_356
  let v335 : BitVec 1 := Scalar.andi v334 v331
  let v336 : BitVec 32 := Scalar.addi v330 v329
  let v337 : BitVec 32 := Scalar.select v335 v336 v330
  let c1_i32_377 : BitVec 32 := 1#32
  let v348 : BitVec 32 := Scalar.muli v337 c1_i32_377
  let v349 : BitVec 32 := Scalar.addi c0_i32_378 v348
  v349.toNat
def k0_dev18 (d0 : Dev nD) : Nat :=
  let c0_i32_399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_387 : BitVec 32 := 6#32
  let v358 : BitVec 32 := Scalar.addi v2 c6_i32_387
  let c8_i32_388 : BitVec 32 := 8#32
  let c0_i32_389 : BitVec 32 := 0#32
  let v359 : BitVec 1 := Scalar.cmpi .eq c8_i32_388 c0_i32_389
  let c1_i32_390 : BitVec 32 := 1#32
  let v360 : BitVec 32 := Scalar.select v359 c1_i32_390 c8_i32_388
  let v361 : BitVec 32 := Scalar.remsi v358 v360
  let c0_i32_392 : BitVec 32 := 0#32
  let v363 : BitVec 1 := Scalar.cmpi .slt v361 c0_i32_392
  let c0_i32_393 : BitVec 32 := 0#32
  let v364 : BitVec 1 := Scalar.cmpi .slt v360 c0_i32_393
  let v365 : BitVec 1 := Scalar.xori v363 v364
  let c0_i32_391 : BitVec 32 := 0#32
  let v362 : BitVec 1 := Scalar.cmpi .ne v361 c0_i32_391
  let v366 : BitVec 1 := Scalar.andi v365 v362
  let v367 : BitVec 32 := Scalar.addi v361 v360
  let v368 : BitVec 32 := Scalar.select v366 v367 v361
  let c1_i32_398 : BitVec 32 := 1#32
  let v369 : BitVec 32 := Scalar.muli v368 c1_i32_398
  let v370 : BitVec 32 := Scalar.addi c0_i32_399 v369
  v370.toNat
def k0_dev19 (d0 : Dev nD) : Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_387 : BitVec 32 := 6#32
  let v358 : BitVec 32 := Scalar.addi v2 c6_i32_387
  let c8_i32_388 : BitVec 32 := 8#32
  let c0_i32_389 : BitVec 32 := 0#32
  let v359 : BitVec 1 := Scalar.cmpi .eq c8_i32_388 c0_i32_389
  let c1_i32_390 : BitVec 32 := 1#32
  let v360 : BitVec 32 := Scalar.select v359 c1_i32_390 c8_i32_388
  let v361 : BitVec 32 := Scalar.remsi v358 v360
  let c0_i32_392 : BitVec 32 := 0#32
  let v363 : BitVec 1 := Scalar.cmpi .slt v361 c0_i32_392
  let c0_i32_393 : BitVec 32 := 0#32
  let v364 : BitVec 1 := Scalar.cmpi .slt v360 c0_i32_393
  let v365 : BitVec 1 := Scalar.xori v363 v364
  let c0_i32_391 : BitVec 32 := 0#32
  let v362 : BitVec 1 := Scalar.cmpi .ne v361 c0_i32_391
  let v366 : BitVec 1 := Scalar.andi v365 v362
  let v367 : BitVec 32 := Scalar.addi v361 v360
  let v368 : BitVec 32 := Scalar.select v366 v367 v361
  let c1_i32_412 : BitVec 32 := 1#32
  let v379 : BitVec 32 := Scalar.muli v368 c1_i32_412
  let v380 : BitVec 32 := Scalar.addi c0_i32_413 v379
  v380.toNat
def k0_dev20 (d0 : Dev nD) : Nat :=
  let c0_i32_434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_422 : BitVec 32 := 7#32
  let v389 : BitVec 32 := Scalar.addi v2 c7_i32_422
  let c8_i32_423 : BitVec 32 := 8#32
  let c0_i32_424 : BitVec 32 := 0#32
  let v390 : BitVec 1 := Scalar.cmpi .eq c8_i32_423 c0_i32_424
  let c1_i32_425 : BitVec 32 := 1#32
  let v391 : BitVec 32 := Scalar.select v390 c1_i32_425 c8_i32_423
  let v392 : BitVec 32 := Scalar.remsi v389 v391
  let c0_i32_427 : BitVec 32 := 0#32
  let v394 : BitVec 1 := Scalar.cmpi .slt v392 c0_i32_427
  let c0_i32_428 : BitVec 32 := 0#32
  let v395 : BitVec 1 := Scalar.cmpi .slt v391 c0_i32_428
  let v396 : BitVec 1 := Scalar.xori v394 v395
  let c0_i32_426 : BitVec 32 := 0#32
  let v393 : BitVec 1 := Scalar.cmpi .ne v392 c0_i32_426
  let v397 : BitVec 1 := Scalar.andi v396 v393
  let v398 : BitVec 32 := Scalar.addi v392 v391
  let v399 : BitVec 32 := Scalar.select v397 v398 v392
  let c1_i32_433 : BitVec 32 := 1#32
  let v400 : BitVec 32 := Scalar.muli v399 c1_i32_433
  let v401 : BitVec 32 := Scalar.addi c0_i32_434 v400
  v401.toNat
def k0_dev21 (d0 : Dev nD) : Nat :=
  let c0_i32_448 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_422 : BitVec 32 := 7#32
  let v389 : BitVec 32 := Scalar.addi v2 c7_i32_422
  let c8_i32_423 : BitVec 32 := 8#32
  let c0_i32_424 : BitVec 32 := 0#32
  let v390 : BitVec 1 := Scalar.cmpi .eq c8_i32_423 c0_i32_424
  let c1_i32_425 : BitVec 32 := 1#32
  let v391 : BitVec 32 := Scalar.select v390 c1_i32_425 c8_i32_423
  let v392 : BitVec 32 := Scalar.remsi v389 v391
  let c0_i32_427 : BitVec 32 := 0#32
  let v394 : BitVec 1 := Scalar.cmpi .slt v392 c0_i32_427
  let c0_i32_428 : BitVec 32 := 0#32
  let v395 : BitVec 1 := Scalar.cmpi .slt v391 c0_i32_428
  let v396 : BitVec 1 := Scalar.xori v394 v395
  let c0_i32_426 : BitVec 32 := 0#32
  let v393 : BitVec 1 := Scalar.cmpi .ne v392 c0_i32_426
  let v397 : BitVec 1 := Scalar.andi v396 v393
  let v398 : BitVec 32 := Scalar.addi v392 v391
  let v399 : BitVec 32 := Scalar.select v397 v398 v392
  let c1_i32_447 : BitVec 32 := 1#32
  let v410 : BitVec 32 := Scalar.muli v399 c1_i32_447
  let v411 : BitVec 32 := Scalar.addi c0_i32_448 v410
  v411.toNat
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_763 : BitVec 32 := 0#32
  let c0_i32_764 : BitVec 32 := 0#32
  ![v2.toNat, 0, 0]
def k0_off4 (d0 : Dev nD) (c1_i32_767 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v801 : BitVec 32 := Scalar.addi v2 c1_i32_767
  let c8_i32_768 : BitVec 32 := 8#32
  let c0_i32_769 : BitVec 32 := 0#32
  let v802 : BitVec 1 := Scalar.cmpi .eq c8_i32_768 c0_i32_769
  let c1_i32_770 : BitVec 32 := 1#32
  let v803 : BitVec 32 := Scalar.select v802 c1_i32_770 c8_i32_768
  let v804 : BitVec 32 := Scalar.remsi v801 v803
  let c0_i32_772 : BitVec 32 := 0#32
  let v806 : BitVec 1 := Scalar.cmpi .slt v804 c0_i32_772
  let c0_i32_773 : BitVec 32 := 0#32
  let v807 : BitVec 1 := Scalar.cmpi .slt v803 c0_i32_773
  let v808 : BitVec 1 := Scalar.xori v806 v807
  let c0_i32_771 : BitVec 32 := 0#32
  let v805 : BitVec 1 := Scalar.cmpi .ne v804 c0_i32_771
  let v809 : BitVec 1 := Scalar.andi v808 v805
  let v810 : BitVec 32 := Scalar.addi v804 v803
  let v811 : BitVec 32 := Scalar.select v809 v810 v804
  let c0_i32_782 : BitVec 32 := 0#32
  let c0_i32_783 : BitVec 32 := 0#32
  ![v811.toNat, 0, 0]
def k0_dev22 (d0 : Dev nD) : Nat :=
  let c0_i32_779 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_767 : BitVec 32 := 1#32
  let v801 : BitVec 32 := Scalar.addi v2 c1_i32_767
  let c8_i32_768 : BitVec 32 := 8#32
  let c0_i32_769 : BitVec 32 := 0#32
  let v802 : BitVec 1 := Scalar.cmpi .eq c8_i32_768 c0_i32_769
  let c1_i32_770 : BitVec 32 := 1#32
  let v803 : BitVec 32 := Scalar.select v802 c1_i32_770 c8_i32_768
  let v804 : BitVec 32 := Scalar.remsi v801 v803
  let c0_i32_772 : BitVec 32 := 0#32
  let v806 : BitVec 1 := Scalar.cmpi .slt v804 c0_i32_772
  let c0_i32_773 : BitVec 32 := 0#32
  let v807 : BitVec 1 := Scalar.cmpi .slt v803 c0_i32_773
  let v808 : BitVec 1 := Scalar.xori v806 v807
  let c0_i32_771 : BitVec 32 := 0#32
  let v805 : BitVec 1 := Scalar.cmpi .ne v804 c0_i32_771
  let v809 : BitVec 1 := Scalar.andi v808 v805
  let v810 : BitVec 32 := Scalar.addi v804 v803
  let v811 : BitVec 32 := Scalar.select v809 v810 v804
  let c1_i32_778 : BitVec 32 := 1#32
  let v812 : BitVec 32 := Scalar.muli v811 c1_i32_778
  let v813 : BitVec 32 := Scalar.addi c0_i32_779 v812
  v813.toNat
def k0_dev23 (d0 : Dev nD) : Nat :=
  let c0_i32_796 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_784 : BitVec 32 := 2#32
  let v822 : BitVec 32 := Scalar.addi v2 c2_i32_784
  let c8_i32_785 : BitVec 32 := 8#32
  let c0_i32_786 : BitVec 32 := 0#32
  let v823 : BitVec 1 := Scalar.cmpi .eq c8_i32_785 c0_i32_786
  let c1_i32_787 : BitVec 32 := 1#32
  let v824 : BitVec 32 := Scalar.select v823 c1_i32_787 c8_i32_785
  let v825 : BitVec 32 := Scalar.remsi v822 v824
  let c0_i32_789 : BitVec 32 := 0#32
  let v827 : BitVec 1 := Scalar.cmpi .slt v825 c0_i32_789
  let c0_i32_790 : BitVec 32 := 0#32
  let v828 : BitVec 1 := Scalar.cmpi .slt v824 c0_i32_790
  let v829 : BitVec 1 := Scalar.xori v827 v828
  let c0_i32_788 : BitVec 32 := 0#32
  let v826 : BitVec 1 := Scalar.cmpi .ne v825 c0_i32_788
  let v830 : BitVec 1 := Scalar.andi v829 v826
  let v831 : BitVec 32 := Scalar.addi v825 v824
  let v832 : BitVec 32 := Scalar.select v830 v831 v825
  let c1_i32_795 : BitVec 32 := 1#32
  let v833 : BitVec 32 := Scalar.muli v832 c1_i32_795
  let v834 : BitVec 32 := Scalar.addi c0_i32_796 v833
  v834.toNat
def k0_dev24 (d0 : Dev nD) : Nat :=
  let c0_i32_813 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_801 : BitVec 32 := 3#32
  let v843 : BitVec 32 := Scalar.addi v2 c3_i32_801
  let c8_i32_802 : BitVec 32 := 8#32
  let c0_i32_803 : BitVec 32 := 0#32
  let v844 : BitVec 1 := Scalar.cmpi .eq c8_i32_802 c0_i32_803
  let c1_i32_804 : BitVec 32 := 1#32
  let v845 : BitVec 32 := Scalar.select v844 c1_i32_804 c8_i32_802
  let v846 : BitVec 32 := Scalar.remsi v843 v845
  let c0_i32_806 : BitVec 32 := 0#32
  let v848 : BitVec 1 := Scalar.cmpi .slt v846 c0_i32_806
  let c0_i32_807 : BitVec 32 := 0#32
  let v849 : BitVec 1 := Scalar.cmpi .slt v845 c0_i32_807
  let v850 : BitVec 1 := Scalar.xori v848 v849
  let c0_i32_805 : BitVec 32 := 0#32
  let v847 : BitVec 1 := Scalar.cmpi .ne v846 c0_i32_805
  let v851 : BitVec 1 := Scalar.andi v850 v847
  let v852 : BitVec 32 := Scalar.addi v846 v845
  let v853 : BitVec 32 := Scalar.select v851 v852 v846
  let c1_i32_812 : BitVec 32 := 1#32
  let v854 : BitVec 32 := Scalar.muli v853 c1_i32_812
  let v855 : BitVec 32 := Scalar.addi c0_i32_813 v854
  v855.toNat
def k0_dev25 (d0 : Dev nD) : Nat :=
  let c0_i32_830 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_818 : BitVec 32 := 4#32
  let v864 : BitVec 32 := Scalar.addi v2 c4_i32_818
  let c8_i32_819 : BitVec 32 := 8#32
  let c0_i32_820 : BitVec 32 := 0#32
  let v865 : BitVec 1 := Scalar.cmpi .eq c8_i32_819 c0_i32_820
  let c1_i32_821 : BitVec 32 := 1#32
  let v866 : BitVec 32 := Scalar.select v865 c1_i32_821 c8_i32_819
  let v867 : BitVec 32 := Scalar.remsi v864 v866
  let c0_i32_823 : BitVec 32 := 0#32
  let v869 : BitVec 1 := Scalar.cmpi .slt v867 c0_i32_823
  let c0_i32_824 : BitVec 32 := 0#32
  let v870 : BitVec 1 := Scalar.cmpi .slt v866 c0_i32_824
  let v871 : BitVec 1 := Scalar.xori v869 v870
  let c0_i32_822 : BitVec 32 := 0#32
  let v868 : BitVec 1 := Scalar.cmpi .ne v867 c0_i32_822
  let v872 : BitVec 1 := Scalar.andi v871 v868
  let v873 : BitVec 32 := Scalar.addi v867 v866
  let v874 : BitVec 32 := Scalar.select v872 v873 v867
  let c1_i32_829 : BitVec 32 := 1#32
  let v875 : BitVec 32 := Scalar.muli v874 c1_i32_829
  let v876 : BitVec 32 := Scalar.addi c0_i32_830 v875
  v876.toNat
def k0_dev26 (d0 : Dev nD) : Nat :=
  let c0_i32_847 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_835 : BitVec 32 := 5#32
  let v885 : BitVec 32 := Scalar.addi v2 c5_i32_835
  let c8_i32_836 : BitVec 32 := 8#32
  let c0_i32_837 : BitVec 32 := 0#32
  let v886 : BitVec 1 := Scalar.cmpi .eq c8_i32_836 c0_i32_837
  let c1_i32_838 : BitVec 32 := 1#32
  let v887 : BitVec 32 := Scalar.select v886 c1_i32_838 c8_i32_836
  let v888 : BitVec 32 := Scalar.remsi v885 v887
  let c0_i32_840 : BitVec 32 := 0#32
  let v890 : BitVec 1 := Scalar.cmpi .slt v888 c0_i32_840
  let c0_i32_841 : BitVec 32 := 0#32
  let v891 : BitVec 1 := Scalar.cmpi .slt v887 c0_i32_841
  let v892 : BitVec 1 := Scalar.xori v890 v891
  let c0_i32_839 : BitVec 32 := 0#32
  let v889 : BitVec 1 := Scalar.cmpi .ne v888 c0_i32_839
  let v893 : BitVec 1 := Scalar.andi v892 v889
  let v894 : BitVec 32 := Scalar.addi v888 v887
  let v895 : BitVec 32 := Scalar.select v893 v894 v888
  let c1_i32_846 : BitVec 32 := 1#32
  let v896 : BitVec 32 := Scalar.muli v895 c1_i32_846
  let v897 : BitVec 32 := Scalar.addi c0_i32_847 v896
  v897.toNat
def k0_dev27 (d0 : Dev nD) : Nat :=
  let c0_i32_864 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_852 : BitVec 32 := 6#32
  let v906 : BitVec 32 := Scalar.addi v2 c6_i32_852
  let c8_i32_853 : BitVec 32 := 8#32
  let c0_i32_854 : BitVec 32 := 0#32
  let v907 : BitVec 1 := Scalar.cmpi .eq c8_i32_853 c0_i32_854
  let c1_i32_855 : BitVec 32 := 1#32
  let v908 : BitVec 32 := Scalar.select v907 c1_i32_855 c8_i32_853
  let v909 : BitVec 32 := Scalar.remsi v906 v908
  let c0_i32_857 : BitVec 32 := 0#32
  let v911 : BitVec 1 := Scalar.cmpi .slt v909 c0_i32_857
  let c0_i32_858 : BitVec 32 := 0#32
  let v912 : BitVec 1 := Scalar.cmpi .slt v908 c0_i32_858
  let v913 : BitVec 1 := Scalar.xori v911 v912
  let c0_i32_856 : BitVec 32 := 0#32
  let v910 : BitVec 1 := Scalar.cmpi .ne v909 c0_i32_856
  let v914 : BitVec 1 := Scalar.andi v913 v910
  let v915 : BitVec 32 := Scalar.addi v909 v908
  let v916 : BitVec 32 := Scalar.select v914 v915 v909
  let c1_i32_863 : BitVec 32 := 1#32
  let v917 : BitVec 32 := Scalar.muli v916 c1_i32_863
  let v918 : BitVec 32 := Scalar.addi c0_i32_864 v917
  v918.toNat
def k0_dev28 (d0 : Dev nD) : Nat :=
  let c0_i32_881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_869 : BitVec 32 := 7#32
  let v927 : BitVec 32 := Scalar.addi v2 c7_i32_869
  let c8_i32_870 : BitVec 32 := 8#32
  let c0_i32_871 : BitVec 32 := 0#32
  let v928 : BitVec 1 := Scalar.cmpi .eq c8_i32_870 c0_i32_871
  let c1_i32_872 : BitVec 32 := 1#32
  let v929 : BitVec 32 := Scalar.select v928 c1_i32_872 c8_i32_870
  let v930 : BitVec 32 := Scalar.remsi v927 v929
  let c0_i32_874 : BitVec 32 := 0#32
  let v932 : BitVec 1 := Scalar.cmpi .slt v930 c0_i32_874
  let c0_i32_875 : BitVec 32 := 0#32
  let v933 : BitVec 1 := Scalar.cmpi .slt v929 c0_i32_875
  let v934 : BitVec 1 := Scalar.xori v932 v933
  let c0_i32_873 : BitVec 32 := 0#32
  let v931 : BitVec 1 := Scalar.cmpi .ne v930 c0_i32_873
  let v935 : BitVec 1 := Scalar.andi v934 v931
  let v936 : BitVec 32 := Scalar.addi v930 v929
  let v937 : BitVec 32 := Scalar.select v935 v936 v930
  let c1_i32_880 : BitVec 32 := 1#32
  let v938 : BitVec 32 := Scalar.muli v937 c1_i32_880
  let v939 : BitVec 32 := Scalar.addi c0_i32_881 v938
  v939.toNat
def k0_dev29 (d0 : Dev nD) : Nat :=
  let c0_i32_1164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1152 : BitVec 32 := 1#32
  let v1105 : BitVec 32 := Scalar.addi v2 c1_i32_1152
  let c8_i32_1153 : BitVec 32 := 8#32
  let c0_i32_1154 : BitVec 32 := 0#32
  let v1106 : BitVec 1 := Scalar.cmpi .eq c8_i32_1153 c0_i32_1154
  let c1_i32_1155 : BitVec 32 := 1#32
  let v1107 : BitVec 32 := Scalar.select v1106 c1_i32_1155 c8_i32_1153
  let v1108 : BitVec 32 := Scalar.remsi v1105 v1107
  let c0_i32_1157 : BitVec 32 := 0#32
  let v1110 : BitVec 1 := Scalar.cmpi .slt v1108 c0_i32_1157
  let c0_i32_1158 : BitVec 32 := 0#32
  let v1111 : BitVec 1 := Scalar.cmpi .slt v1107 c0_i32_1158
  let v1112 : BitVec 1 := Scalar.xori v1110 v1111
  let c0_i32_1156 : BitVec 32 := 0#32
  let v1109 : BitVec 1 := Scalar.cmpi .ne v1108 c0_i32_1156
  let v1113 : BitVec 1 := Scalar.andi v1112 v1109
  let v1114 : BitVec 32 := Scalar.addi v1108 v1107
  let v1115 : BitVec 32 := Scalar.select v1113 v1114 v1108
  let c1_i32_1163 : BitVec 32 := 1#32
  let v1116 : BitVec 32 := Scalar.muli v1115 c1_i32_1163
  let v1117 : BitVec 32 := Scalar.addi c0_i32_1164 v1116
  v1117.toNat
def k0_dev30 (d0 : Dev nD) : Nat :=
  let c0_i32_1179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1167 : BitVec 32 := 2#32
  let v1124 : BitVec 32 := Scalar.addi v2 c2_i32_1167
  let c8_i32_1168 : BitVec 32 := 8#32
  let c0_i32_1169 : BitVec 32 := 0#32
  let v1125 : BitVec 1 := Scalar.cmpi .eq c8_i32_1168 c0_i32_1169
  let c1_i32_1170 : BitVec 32 := 1#32
  let v1126 : BitVec 32 := Scalar.select v1125 c1_i32_1170 c8_i32_1168
  let v1127 : BitVec 32 := Scalar.remsi v1124 v1126
  let c0_i32_1172 : BitVec 32 := 0#32
  let v1129 : BitVec 1 := Scalar.cmpi .slt v1127 c0_i32_1172
  let c0_i32_1173 : BitVec 32 := 0#32
  let v1130 : BitVec 1 := Scalar.cmpi .slt v1126 c0_i32_1173
  let v1131 : BitVec 1 := Scalar.xori v1129 v1130
  let c0_i32_1171 : BitVec 32 := 0#32
  let v1128 : BitVec 1 := Scalar.cmpi .ne v1127 c0_i32_1171
  let v1132 : BitVec 1 := Scalar.andi v1131 v1128
  let v1133 : BitVec 32 := Scalar.addi v1127 v1126
  let v1134 : BitVec 32 := Scalar.select v1132 v1133 v1127
  let c1_i32_1178 : BitVec 32 := 1#32
  let v1135 : BitVec 32 := Scalar.muli v1134 c1_i32_1178
  let v1136 : BitVec 32 := Scalar.addi c0_i32_1179 v1135
  v1136.toNat
def k0_dev31 (d0 : Dev nD) : Nat :=
  let c0_i32_1194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1182 : BitVec 32 := 3#32
  let v1143 : BitVec 32 := Scalar.addi v2 c3_i32_1182
  let c8_i32_1183 : BitVec 32 := 8#32
  let c0_i32_1184 : BitVec 32 := 0#32
  let v1144 : BitVec 1 := Scalar.cmpi .eq c8_i32_1183 c0_i32_1184
  let c1_i32_1185 : BitVec 32 := 1#32
  let v1145 : BitVec 32 := Scalar.select v1144 c1_i32_1185 c8_i32_1183
  let v1146 : BitVec 32 := Scalar.remsi v1143 v1145
  let c0_i32_1187 : BitVec 32 := 0#32
  let v1148 : BitVec 1 := Scalar.cmpi .slt v1146 c0_i32_1187
  let c0_i32_1188 : BitVec 32 := 0#32
  let v1149 : BitVec 1 := Scalar.cmpi .slt v1145 c0_i32_1188
  let v1150 : BitVec 1 := Scalar.xori v1148 v1149
  let c0_i32_1186 : BitVec 32 := 0#32
  let v1147 : BitVec 1 := Scalar.cmpi .ne v1146 c0_i32_1186
  let v1151 : BitVec 1 := Scalar.andi v1150 v1147
  let v1152 : BitVec 32 := Scalar.addi v1146 v1145
  let v1153 : BitVec 32 := Scalar.select v1151 v1152 v1146
  let c1_i32_1193 : BitVec 32 := 1#32
  let v1154 : BitVec 32 := Scalar.muli v1153 c1_i32_1193
  let v1155 : BitVec 32 := Scalar.addi c0_i32_1194 v1154
  v1155.toNat
def k0_dev32 (d0 : Dev nD) : Nat :=
  let c0_i32_1209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1197 : BitVec 32 := 4#32
  let v1162 : BitVec 32 := Scalar.addi v2 c4_i32_1197
  let c8_i32_1198 : BitVec 32 := 8#32
  let c0_i32_1199 : BitVec 32 := 0#32
  let v1163 : BitVec 1 := Scalar.cmpi .eq c8_i32_1198 c0_i32_1199
  let c1_i32_1200 : BitVec 32 := 1#32
  let v1164 : BitVec 32 := Scalar.select v1163 c1_i32_1200 c8_i32_1198
  let v1165 : BitVec 32 := Scalar.remsi v1162 v1164
  let c0_i32_1202 : BitVec 32 := 0#32
  let v1167 : BitVec 1 := Scalar.cmpi .slt v1165 c0_i32_1202
  let c0_i32_1203 : BitVec 32 := 0#32
  let v1168 : BitVec 1 := Scalar.cmpi .slt v1164 c0_i32_1203
  let v1169 : BitVec 1 := Scalar.xori v1167 v1168
  let c0_i32_1201 : BitVec 32 := 0#32
  let v1166 : BitVec 1 := Scalar.cmpi .ne v1165 c0_i32_1201
  let v1170 : BitVec 1 := Scalar.andi v1169 v1166
  let v1171 : BitVec 32 := Scalar.addi v1165 v1164
  let v1172 : BitVec 32 := Scalar.select v1170 v1171 v1165
  let c1_i32_1208 : BitVec 32 := 1#32
  let v1173 : BitVec 32 := Scalar.muli v1172 c1_i32_1208
  let v1174 : BitVec 32 := Scalar.addi c0_i32_1209 v1173
  v1174.toNat
def k0_dev33 (d0 : Dev nD) : Nat :=
  let c0_i32_1224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1212 : BitVec 32 := 5#32
  let v1181 : BitVec 32 := Scalar.addi v2 c5_i32_1212
  let c8_i32_1213 : BitVec 32 := 8#32
  let c0_i32_1214 : BitVec 32 := 0#32
  let v1182 : BitVec 1 := Scalar.cmpi .eq c8_i32_1213 c0_i32_1214
  let c1_i32_1215 : BitVec 32 := 1#32
  let v1183 : BitVec 32 := Scalar.select v1182 c1_i32_1215 c8_i32_1213
  let v1184 : BitVec 32 := Scalar.remsi v1181 v1183
  let c0_i32_1217 : BitVec 32 := 0#32
  let v1186 : BitVec 1 := Scalar.cmpi .slt v1184 c0_i32_1217
  let c0_i32_1218 : BitVec 32 := 0#32
  let v1187 : BitVec 1 := Scalar.cmpi .slt v1183 c0_i32_1218
  let v1188 : BitVec 1 := Scalar.xori v1186 v1187
  let c0_i32_1216 : BitVec 32 := 0#32
  let v1185 : BitVec 1 := Scalar.cmpi .ne v1184 c0_i32_1216
  let v1189 : BitVec 1 := Scalar.andi v1188 v1185
  let v1190 : BitVec 32 := Scalar.addi v1184 v1183
  let v1191 : BitVec 32 := Scalar.select v1189 v1190 v1184
  let c1_i32_1223 : BitVec 32 := 1#32
  let v1192 : BitVec 32 := Scalar.muli v1191 c1_i32_1223
  let v1193 : BitVec 32 := Scalar.addi c0_i32_1224 v1192
  v1193.toNat
def k0_dev34 (d0 : Dev nD) : Nat :=
  let c0_i32_1239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1227 : BitVec 32 := 6#32
  let v1200 : BitVec 32 := Scalar.addi v2 c6_i32_1227
  let c8_i32_1228 : BitVec 32 := 8#32
  let c0_i32_1229 : BitVec 32 := 0#32
  let v1201 : BitVec 1 := Scalar.cmpi .eq c8_i32_1228 c0_i32_1229
  let c1_i32_1230 : BitVec 32 := 1#32
  let v1202 : BitVec 32 := Scalar.select v1201 c1_i32_1230 c8_i32_1228
  let v1203 : BitVec 32 := Scalar.remsi v1200 v1202
  let c0_i32_1232 : BitVec 32 := 0#32
  let v1205 : BitVec 1 := Scalar.cmpi .slt v1203 c0_i32_1232
  let c0_i32_1233 : BitVec 32 := 0#32
  let v1206 : BitVec 1 := Scalar.cmpi .slt v1202 c0_i32_1233
  let v1207 : BitVec 1 := Scalar.xori v1205 v1206
  let c0_i32_1231 : BitVec 32 := 0#32
  let v1204 : BitVec 1 := Scalar.cmpi .ne v1203 c0_i32_1231
  let v1208 : BitVec 1 := Scalar.andi v1207 v1204
  let v1209 : BitVec 32 := Scalar.addi v1203 v1202
  let v1210 : BitVec 32 := Scalar.select v1208 v1209 v1203
  let c1_i32_1238 : BitVec 32 := 1#32
  let v1211 : BitVec 32 := Scalar.muli v1210 c1_i32_1238
  let v1212 : BitVec 32 := Scalar.addi c0_i32_1239 v1211
  v1212.toNat
def k0_dev35 (d0 : Dev nD) : Nat :=
  let c0_i32_1254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1242 : BitVec 32 := 7#32
  let v1219 : BitVec 32 := Scalar.addi v2 c7_i32_1242
  let c8_i32_1243 : BitVec 32 := 8#32
  let c0_i32_1244 : BitVec 32 := 0#32
  let v1220 : BitVec 1 := Scalar.cmpi .eq c8_i32_1243 c0_i32_1244
  let c1_i32_1245 : BitVec 32 := 1#32
  let v1221 : BitVec 32 := Scalar.select v1220 c1_i32_1245 c8_i32_1243
  let v1222 : BitVec 32 := Scalar.remsi v1219 v1221
  let c0_i32_1247 : BitVec 32 := 0#32
  let v1224 : BitVec 1 := Scalar.cmpi .slt v1222 c0_i32_1247
  let c0_i32_1248 : BitVec 32 := 0#32
  let v1225 : BitVec 1 := Scalar.cmpi .slt v1221 c0_i32_1248
  let v1226 : BitVec 1 := Scalar.xori v1224 v1225
  let c0_i32_1246 : BitVec 32 := 0#32
  let v1223 : BitVec 1 := Scalar.cmpi .ne v1222 c0_i32_1246
  let v1227 : BitVec 1 := Scalar.andi v1226 v1223
  let v1228 : BitVec 32 := Scalar.addi v1222 v1221
  let v1229 : BitVec 32 := Scalar.select v1227 v1228 v1222
  let c1_i32_1253 : BitVec 32 := 1#32
  let v1230 : BitVec 32 := Scalar.muli v1229 c1_i32_1253
  let v1231 : BitVec 32 := Scalar.addi c0_i32_1254 v1230
  v1231.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x2048 : Shape := ⟨2, ![512, 2048]⟩
abbrev S2x1024x32x64 : Shape := ⟨4, ![2, 1024, 32, 64]⟩
abbrev S2048x512 : Shape := ⟨2, ![2048, 512]⟩
abbrev S2x128x2048 : Shape := ⟨3, ![2, 128, 2048]⟩
abbrev S2x128x32x64 : Shape := ⟨4, ![2, 128, 32, 64]⟩
abbrev S128 : Shape := ⟨1, ![128]⟩
abbrev S128x1 : Shape := ⟨2, ![128, 1]⟩
abbrev S1024 : Shape := ⟨1, ![1024]⟩
abbrev S1x1024 : Shape := ⟨2, ![1, 1024]⟩
abbrev S128x1024 : Shape := ⟨2, ![128, 1024]⟩
abbrev S_ : Shape := ⟨0, ![]⟩
abbrev S2x32x128x1024 : Shape := ⟨4, ![2, 32, 128, 1024]⟩
abbrev S1x1x128x1024 : Shape := ⟨4, ![1, 1, 128, 1024]⟩
abbrev S2x32x128 : Shape := ⟨3, ![2, 32, 128]⟩
abbrev S2x32x128x1 : Shape := ⟨4, ![2, 32, 128, 1]⟩
abbrev S1x1x128x1 : Shape := ⟨4, ![1, 1, 128, 1]⟩
abbrev S2x32x64x128 : Shape := ⟨4, ![2, 32, 64, 128]⟩

abbrev nBuf : Space → Nat
  | .hbm => 67
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x2048, .f32⟩
  | .hbm, ⟨2, _⟩ => ⟨S2x1024x32x64, .f32⟩
  | .hbm, ⟨3, _⟩ => ⟨S2x1024x32x64, .f32⟩
  | .hbm, ⟨4, _⟩ => ⟨S2048x512, .f32⟩
  | .hbm, ⟨5, _⟩ => ⟨S2x128x2048, .f32⟩
  | .hbm, ⟨6, _⟩ => ⟨S2x128x32x64, .f32⟩
  | .hbm, ⟨7, _⟩ => ⟨S128, .i32⟩
  | .hbm, ⟨8, _⟩ => ⟨S128x1, .i32⟩
  | .hbm, ⟨9, _⟩ => ⟨S1024, .i32⟩
  | .hbm, ⟨10, _⟩ => ⟨S1x1024, .i32⟩
  | .hbm, ⟨11, _⟩ => ⟨S128x1024, .i32⟩
  | .hbm, ⟨12, _⟩ => ⟨S128x1024, .i32⟩
  | .hbm, ⟨13, _⟩ => ⟨S128x1024, .i32⟩
  | .hbm, ⟨14, _⟩ => ⟨S128x1024, .i32⟩
  | .hbm, ⟨15, _⟩ => ⟨S_, .i32⟩
  | .hbm, ⟨16, _⟩ => ⟨S128x1024, .i32⟩
  | .hbm, ⟨17, _⟩ => ⟨S128x1024, .i1⟩
  | .hbm, ⟨18, _⟩ => ⟨S_, .i32⟩
  | .hbm, ⟨19, _⟩ => ⟨S1x1024, .i32⟩
  | .hbm, ⟨20, _⟩ => ⟨S1x1024, .i1⟩
  | .hbm, ⟨21, _⟩ => ⟨S_, .i32⟩
  | .hbm, ⟨22, _⟩ => ⟨S128x1, .i32⟩
  | .hbm, ⟨23, _⟩ => ⟨S128x1, .i1⟩
  | .hbm, ⟨24, _⟩ => ⟨S128x1024, .i1⟩
  | .hbm, ⟨25, _⟩ => ⟨S128x1024, .i1⟩
  | .hbm, ⟨26, _⟩ => ⟨S128x1024, .i1⟩
  | .hbm, ⟨27, _⟩ => ⟨S128x1024, .i1⟩
  | .hbm, ⟨28, _⟩ => ⟨S2x32x128x1024, .f32⟩
  | .hbm, ⟨29, _⟩ => ⟨S_, .f32⟩
  | .hbm, ⟨30, _⟩ => ⟨S2x32x128x1024, .f32⟩
  | .hbm, ⟨31, _⟩ => ⟨S2x32x128x1024, .f32⟩
  | .hbm, ⟨32, _⟩ => ⟨S1x1x128x1024, .i1⟩
  | .hbm, ⟨33, _⟩ => ⟨S_, .f32⟩
  | .hbm, ⟨34, _⟩ => ⟨S_, .f32⟩
  | .hbm, ⟨35, _⟩ => ⟨S2x32x128x1024, .i1⟩
  | .hbm, ⟨36, _⟩ => ⟨S2x32x128x1024, .f32⟩
  | .hbm, ⟨37, _⟩ => ⟨S2x32x128x1024, .f32⟩
  | .hbm, ⟨38, _⟩ => ⟨S_, .f32⟩
  | .hbm, ⟨39, _⟩ => ⟨S2x32x128, .f32⟩
  | .hbm, ⟨40, _⟩ => ⟨S2x32x128x1, .f32⟩
  | .hbm, ⟨41, _⟩ => ⟨S2x32x128x1024, .f32⟩
  | .hbm, ⟨42, _⟩ => ⟨S2x32x128x1024, .f32⟩
  | .hbm, ⟨43, _⟩ => ⟨S2x32x128x1024, .f32⟩
  | .hbm, ⟨44, _⟩ => ⟨S_, .i1⟩
  | .hbm, ⟨45, _⟩ => ⟨S128, .i1⟩
  | .hbm, ⟨46, _⟩ => ⟨S1x1x128x1, .i1⟩
  | .hbm, ⟨47, _⟩ => ⟨S_, .f32⟩
  | .hbm, ⟨48, _⟩ => ⟨S2x32x128, .f32⟩
  | .hbm, ⟨49, _⟩ => ⟨S2x32x128x1, .f32⟩
  | .hbm, ⟨50, _⟩ => ⟨S_, .f32⟩
  | .hbm, ⟨51, _⟩ => ⟨S_, .f32⟩
  | .hbm, ⟨52, _⟩ => ⟨S2x32x128x1, .i1⟩
  | .hbm, ⟨53, _⟩ => ⟨S2x32x128x1, .f32⟩
  | .hbm, ⟨54, _⟩ => ⟨S2x32x128x1, .f32⟩
  | .hbm, ⟨55, _⟩ => ⟨S2x32x128x1024, .f32⟩
  | .hbm, ⟨56, _⟩ => ⟨S2x32x128x1024, .f32⟩
  | .hbm, ⟨57, _⟩ => ⟨S1x1x128x1, .i1⟩
  | .hbm, ⟨58, _⟩ => ⟨S_, .f32⟩
  | .hbm, ⟨59, _⟩ => ⟨S_, .f32⟩
  | .hbm, ⟨60, _⟩ => ⟨S2x32x128x1024, .i1⟩
  | .hbm, ⟨61, _⟩ => ⟨S2x32x128x1024, .f32⟩
  | .hbm, ⟨62, _⟩ => ⟨S2x32x128x1024, .f32⟩
  | .hbm, ⟨63, _⟩ => ⟨S2x32x64x128, .f32⟩
  | .hbm, ⟨64, _⟩ => ⟨S2x128x32x64, .f32⟩
  | .hbm, ⟨65, _⟩ => ⟨S2x128x2048, .f32⟩
  | .hbm, ⟨66, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.KernelIdeal.Phases.lean ====
/-
  The kernel body restated as a sequence of phases. The printed program is cut into parts of equal
  length with no regard to what it does; here it is one sequence of loops over the seven other devices
  or the eight devices, each step a small program that is generic in the loop's index. `body_eq` says
  the two are the same program.
-/
module

public import proofs.«01_k».proof.Proof.Gen.KernelIdeal
public import proofs.«01_k».proof.Proof.Gen.KernelIdeal.Skeleton

@[expose] public section

noncomputable section

namespace Cert.KernelIdeal.Mesh

open Idealize.ShloMosaic Idealize.ShloMosaic.TcCoe Idealize.SL.Sem Cert.KernelIdeal Cert.KernelIdeal.Gen

variable {F : FTy → Type} [FloatOps F]

/-! ## Buffers and their slots -/

/-- A buffer of eight slots, each one device's keys or values. -/
abbrev KBuf := Memref sig .tc .vmem S8x2x128x4x64 .bf16
/-- A buffer of eight slots, each one column block of an output. -/
abbrev RBuf := Memref sig .tc .vmem S8x256x64 .bf16

/-- The slot of a key or value buffer at the offsets `off`. -/
abbrev slotK (b : KBuf) (off : Fin 5 → ℕ) (h : ∀ a, off a + S1x2x128x4x64.size a ≤ S8x2x128x4x64.size a) :
    Memref sig .tc .vmem S2x128x4x64 .bf16 :=
  (b.slice (Rect.unit (s := S8x2x128x4x64) off S1x2x128x4x64.size h) (fun _ => rfl)).squeeze S2x128x4x64
    squeezes_S1x2x128x4x64_S2x128x4x64

/-- The slot of an output buffer at the offsets `off`. -/
abbrev slotR (b : RBuf) (off : Fin 3 → ℕ) (h : ∀ a, off a + S1x256x64.size a ≤ S8x256x64.size a) :
    Memref sig .tc .vmem S256x64 .bf16 :=
  (b.slice (Rect.unit (s := S8x256x64) off S1x256x64.size h) (fun _ => rfl)).squeeze S256x64 squeezes_S1x256x64_S256x64

/-- Device `d`'s own slot, and the slot of the device `k + 1` places further. -/
abbrev ownK (b : KBuf) (d : Dev nD) := slotK b (k0_off1 d) (k0_off1_inb d)
abbrev toK (b : KBuf) (d : Dev nD) (k : Fin 7) := slotK b (k0_off2 d (BitVec.ofNat 32 (1 + k.val))) (k0_off2_inb d k)
abbrev ownR (b : RBuf) (d : Dev nD) := slotR b (k0_off3 d) (k0_off3_inb d)
abbrev toR (b : RBuf) (d : Dev nD) (k : Fin 7) := slotR b (k0_off4 d (BitVec.ofNat 32 (1 + k.val))) (k0_off4_inb d k)

theorem ownK_words (b : KBuf) (hb : b.IsWhole) (d : Dev nD) : (ownK b d).view.WordExact :=
  (hb.wordExact_slice rfl _ (k0_off1_wordsbf16 d)).reshape _ _
theorem toK_words (b : KBuf) (hb : b.IsWhole) (d : Dev nD) (k : Fin 7) : (toK b d k).view.WordExact :=
  (hb.wordExact_slice rfl _ (k0_off2_wordsbf16 d k)).reshape _ _
theorem ownR_words (b : RBuf) (hb : b.IsWhole) (d : Dev nD) : (ownR b d).view.WordExact :=
  (hb.wordExact_slice rfl _ (k0_off3_wordsbf16 d)).reshape _ _
theorem toR_words (b : RBuf) (hb : b.IsWhole) (d : Dev nD) (k : Fin 7) : (toR b d k).view.WordExact :=
  (hb.wordExact_slice rfl _ (k0_off4_wordsbf16 d k)).reshape _ _

/-- The rectangle of slot `j`, as a load or store names it. -/
theorem inbK : ∀ (j : Fin 8) a, (![j.val, 0, 0, 0, 0] : Fin 5 → ℕ) a + S1x2x128x4x64.size a ≤ S8x2x128x4x64.size a := by decide
abbrev rectK (j : Fin 8) : Rect S8x2x128x4x64 := Rect.unit (s := S8x2x128x4x64) ![j.val, 0, 0, 0, 0] S1x2x128x4x64.size (inbK j)
theorem inbR : ∀ (j : Fin 8) a, (![j.val, 0, 0] : Fin 3 → ℕ) a + S1x256x64.size a ≤ S8x256x64.size a := by decide
abbrev rectR (j : Fin 8) : Rect S8x256x64 := Rect.unit (s := S8x256x64) ![j.val, 0, 0] S1x256x64.size (inbR j)
/-- The four heads of device `j` in the keys or values of all 32 heads. -/
theorem inbH : ∀ (j : Fin 8) a, (![0, 0, 4 * j.val, 0] : Fin 4 → ℕ) a + S2x128x4x64.size a ≤ S2x128x32x64.size a := by decide
abbrev rectH (j : Fin 8) : Rect S2x128x32x64 := Rect.unit (s := S2x128x32x64) ![0, 0, 4 * j.val, 0] S2x128x4x64.size (inbH j)

theorem packedK : ∀ j : Fin 8, (rectK j).PackedRows (EltTy.packing .bf16) := by decide
theorem packedR : ∀ j : Fin 8, (rectR j).PackedRows (EltTy.packing .bf16) := by decide

/-! ## Semaphores -/

theorem inbS : ∀ (r : Fin 4) (k : Fin 7) a, (![r.val, k.val] : Fin 2 → ℕ) a + S1x1.size a ≤ S4x7.size a := by decide
theorem inbL : ∀ (l : Fin 4) a, (![l.val] : Fin 1 → ℕ) a + S1.size a ≤ S4.size a := by decide

/-- The semaphore at row `r`, column `k` of a 4 × 7 array. -/
abbrev semAt (a : DmaSems sig S4x7) (r : Fin 4) (k : Fin 7) : DmaSem sig :=
  ((a.slice (Rect.unit (s := S4x7) ![r.val, k.val] S1x1.size (inbS r k))).squeeze S_ squeezes_S1x1_S_).sem
/-- The semaphore at place `l` of the array of four. -/
abbrev semLoc (a : DmaSems sig S4) (l : Fin 4) : DmaSem sig :=
  ((a.slice (Rect.unit (s := S4) ![l.val] S1.size (inbL l))).squeeze S_ squeezes_S1_S_).sem
/-- The barrier semaphore. -/
abbrev barS : Sem sig := (SemArray.scalar (sig.barrier 0 rfl) : Sems sig S_).sem

/-! ## The device each step names -/

/-- The device the `k`-th signal names, -/
def devS (d : Dev nD) : Fin 7 → Dev nD :=
  ![⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩, ⟨k0_dev6 d, k0_dev6_lt d⟩, ⟨k0_dev7 d, k0_dev7_lt d⟩]
/-- the `k`-th send of keys, -/
def devK (d : Dev nD) : Fin 7 → Dev nD :=
  ![⟨k0_dev8 d, k0_dev8_lt d⟩, ⟨k0_dev10 d, k0_dev10_lt d⟩, ⟨k0_dev12 d, k0_dev12_lt d⟩, ⟨k0_dev14 d, k0_dev14_lt d⟩, ⟨k0_dev16 d, k0_dev16_lt d⟩, ⟨k0_dev18 d, k0_dev18_lt d⟩, ⟨k0_dev20 d, k0_dev20_lt d⟩]
/-- the `k`-th send of values, -/
def devV (d : Dev nD) : Fin 7 → Dev nD :=
  ![⟨k0_dev9 d, k0_dev9_lt d⟩, ⟨k0_dev11 d, k0_dev11_lt d⟩, ⟨k0_dev13 d, k0_dev13_lt d⟩, ⟨k0_dev15 d, k0_dev15_lt d⟩, ⟨k0_dev17 d, k0_dev17_lt d⟩, ⟨k0_dev19 d, k0_dev19_lt d⟩, ⟨k0_dev21 d, k0_dev21_lt d⟩]
/-- the `k`-th send of a partial output block, -/
def devR (d : Dev nD) : Fin 7 → Dev nD :=
  ![⟨k0_dev22 d, k0_dev22_lt d⟩, ⟨k0_dev23 d, k0_dev23_lt d⟩, ⟨k0_dev24 d, k0_dev24_lt d⟩, ⟨k0_dev25 d, k0_dev25_lt d⟩, ⟨k0_dev26 d, k0_dev26_lt d⟩, ⟨k0_dev27 d, k0_dev27_lt d⟩, ⟨k0_dev28 d, k0_dev28_lt d⟩]
/-- and the `k`-th send of a summed output block. -/
def devA (d : Dev nD) : Fin 7 → Dev nD :=
  ![⟨k0_dev29 d, k0_dev29_lt d⟩, ⟨k0_dev30 d, k0_dev30_lt d⟩, ⟨k0_dev31 d, k0_dev31_lt d⟩, ⟨k0_dev32 d, k0_dev32_lt d⟩, ⟨k0_dev33 d, k0_dev33_lt d⟩, ⟨k0_dev34 d, k0_dev34_lt d⟩, ⟨k0_dev35 d, k0_dev35_lt d⟩]

/-! ## Loops -/

/-- A program of this kernel. -/
abbrev Pr (F : FTy → Type) [FloatOps F] (α : Type) := Prog (TpuEff nD τ sig (Elt F) Λ₀ .tc) α

/-- The seven steps of a loop over the other devices, in order. -/
def for7 (f : Fin 7 → Pr F PUnit) : Pr F PUnit := do f 0; f 1; f 2; f 3; f 4; f 5; f 6
/-- The eight steps of a loop over all devices, in order. -/
def for8 (f : Fin 8 → Pr F PUnit) : Pr F PUnit := do f 0; f 1; f 2; f 3; f 4; f 5; f 6; f 7

/-! ## The steps -/

/-- Signal the `k`-th other device's barrier. -/
def signal (d : Dev nD) (k : Fin 7) : Pr F PUnit := semSignalWord (devS d k) barS 1#32
/-- Wait for the seven signals on one's own barrier. -/
def waitBar : Pr F PUnit := semWaitWord barS 7#32

/-- Round device `j`'s heads of `src` and put them in slot `j` of `b`. -/
def castHeads (src : Memref sig .tc .vmem S2x128x32x64 .f32) (b : KBuf) (hb : b.IsWhole) (j : Fin 8) : Pr F PUnit := do
  let v : Vec F S2x128x4x64 .f32 ← Prog.lift (.load src (rectH j).toLoadRect (View.loadsAt_vmem h_S2x128x4x64))
  let _ : Vec F S1x2x128x4x64 .bf16 ← Prog.lift (.load b (rectK j).toLoadRect (View.loadsAt_vmem h_S1x2x128x4x64))
  Prog.lift (.store b (rectK j) (k0_pay1 v) Finset.univ
    (View.stores_vmem h_S1x2x128x4x64 (hb.storeExact_slice rfl _ (packedK j)) (fun _ => rfl)) (.inl rfl))

/-- Copy one's own slot of `src` to one's own slot of `dst`. -/
def hereK (src dst : KBuf) (hs : src.IsWhole) (hd : dst.IsWhole) (s : DmaSem sig) (d : Dev nD) : Pr F PUnit :=
  Prog.lift (.enqueueDma (ownK src d) (.here (ownK dst d)) (.dma s) (ownK_words src hs d) (ownK_words dst hd d) ⟨Or.inl rfl, trivial⟩)
def hereR (src dst : RBuf) (hs : src.IsWhole) (hd : dst.IsWhole) (s : DmaSem sig) (d : Dev nD) : Pr F PUnit :=
  Prog.lift (.enqueueDma (ownR src d) (.here (ownR dst d)) (.dma s) (ownR_words src hs d) (ownR_words dst hd d) ⟨Or.inl rfl, trivial⟩)
def hereA (src : Memref sig .tc .vmem S256x64 .bf16) (dst : RBuf) (hs : src.IsWhole) (hd : dst.IsWhole) (s : DmaSem sig) (d : Dev nD) :
    Pr F PUnit :=
  Prog.lift (.enqueueDma src (.here (ownR dst d)) (.dma s) hs.wordExact (ownR_words dst hd d) ⟨Or.inl rfl, trivial⟩)

/-- Copy slot `to` of `src` to one's own slot of `dst` on the device `n`. -/
def sendK (src dst : KBuf) (hs : src.IsWhole) (hd : dst.IsWhole) (sS sR : DmaSem sig) (d n : Dev nD) (k : Fin 7) : Pr F PUnit :=
  Prog.lift (.enqueueDma (toK src d k) (.remote (Dev.tc n) (ownK dst d) (.dma sS)) (.dma sR)
    (toK_words src hs d k) (ownK_words dst hd d) ⟨⟨rfl, Or.inl rfl⟩, trivial⟩)
def sendR (src dst : RBuf) (hs : src.IsWhole) (hd : dst.IsWhole) (sS sR : DmaSem sig) (d n : Dev nD) (k : Fin 7) : Pr F PUnit :=
  Prog.lift (.enqueueDma (toR src d k) (.remote (Dev.tc n) (ownR dst d) (.dma sS)) (.dma sR)
    (toR_words src hs d k) (ownR_words dst hd d) ⟨⟨rfl, Or.inl rfl⟩, trivial⟩)
def sendA (src : Memref sig .tc .vmem S256x64 .bf16) (dst : RBuf) (hs : src.IsWhole) (hd : dst.IsWhole) (sS sR : DmaSem sig) (d n : Dev nD) :
    Pr F PUnit :=
  Prog.lift (.enqueueDma src (.remote (Dev.tc n) (ownR dst d) (.dma sS)) (.dma sR)
    hs.wordExact (ownR_words dst hd d) ⟨⟨rfl, Or.inl rfl⟩, trivial⟩)

/-- Wait for a transfer between the two memrefs named, of keys or values or of an output block. -/
def waitAt {s : Shape} (sm : DmaSem sig) (src dst : Memref sig .tc .vmem s .bf16) (hs : src.view.WordExact) (hd : dst.view.WordExact) :
    Pr F PUnit :=
  Prog.lift (.waitDma2 sm src dst hs hd)

/-- Put block `j` of the partial output in slot `j` of `b`. -/
def putBlock (b : RBuf) (hb : b.IsWhole) (j : Fin 8) (w : FVec F S1x256x64 .bf16) : Pr F PUnit := do
  let _ : Vec F S1x256x64 .bf16 ← Prog.lift (.load b (rectR j).toLoadRect (View.loadsAt_vmem h_S1x256x64))
  Prog.lift (.store b (rectR j) w Finset.univ
    (View.stores_vmem h_S1x256x64 (hb.storeExact_slice rfl _ (packedR j)) (fun _ => rfl)) (.inl rfl))

/-- Load slot `j` of `b`. -/
def getBlock (b : RBuf) (j : Fin 8) : Pr F (Vec F S1x256x64 .bf16) :=
  Prog.lift (.load b (rectR j).toLoadRect (View.loadsAt_vmem h_S1x256x64))

/-! ## The values -/

/-- The partial output from this device's heads, cut in eight blocks of columns: a function of the rounded queries, all
    keys, all values and the rows of the output weights. -/
def blocks (v426 : FVec F S256x256 .bf16) (v551 v552 : Vec F S8x2x128x4x64 .bf16) (v752 : Vec F S256x512 .f32) :
    Fin 8 → FVec F S1x256x64 .bf16 :=
  let v564 : IVec S128x1024 1 := k0_pay21
  let v587 := k0_pay22 v426 v551 v552
  let v594 := k0_pay23 v552
  let v599 := k0_pay24 v426 v551
  let v610 := k0_pay25 v594 v599
  let v633 := k0_pay26 v426 v551 v552 v564
  let v640 := k0_pay27 v552
  let v645 := k0_pay28 v426 v551 v564
  let v646 := k0_pay29 v426 v551 v564
  let v657 := k0_pay30 v587 v610 v633 v640 v645 v646
  let v680 := k0_pay31 v426 v551 v552 v564
  let v687 := k0_pay32 v552
  let v692 := k0_pay33 v426 v551 v564
  let v694 := k0_pay34 v426 v551 v564
  let v703 := k0_pay35 v687 v692 v694
  let v726 := k0_pay36 v426 v551 v552 v564
  let v733 := k0_pay37 v552
  let v742 := k0_pay38 v426 v551 v564
  let v754 := k0_pay39 v657 v680 v703 v726 v733 v742 v752
  ![k0_pay40 v657 v680 v703 v726 v733 v742 v752, k0_pay41 v657 v680 v703 v726 v733 v742 v752,
    k0_pay42 v657 v680 v703 v726 v733 v742 v752, k0_pay43 v657 v680 v703 v726 v733 v742 v752,
    k0_pay45 (k0_pay44 v657 v680 v703 v726 v733 v742 v752), k0_pay46 v754, k0_pay47 v754, k0_pay48 v754]

/-- The output from the eight summed blocks. -/
def joined (a : Fin 8 → Vec F S1x256x64 .bf16) : FVec F S2x128x512 .f32 :=
  k0_pay55 (k0_pay50 (a 0)) (k0_pay51 (a 1)) (k0_pay52 (a 2)) (k0_pay53 (a 3)) (k0_pay54 (a 4)) (a 5) (a 6) (a 7)

/-! ## The body -/

/-- The kernel body, phase by phase. -/
def body (arg0 : Memref sig .tc .vmem S2x128x512 .f32) (harg0 : arg0.IsWhole) (arg1 : Memref sig .tc .vmem S512x256 .f32) (harg1 : arg1.IsWhole) (arg2 : Memref sig .tc .vmem S2x128x32x64 .f32) (harg2 : arg2.IsWhole) (arg3 : Memref sig .tc .vmem S2x128x32x64 .f32) (harg3 : arg3.IsWhole) (arg4 : Memref sig .tc .vmem S256x512 .f32) (harg4 : arg4.IsWhole) (arg5 : Memref sig .tc .vmem S2x128x512 .f32) (harg5 : arg5.IsWhole) (arg6 : Memref sig .tc .vmem S8x2x128x4x64 .bf16) (harg6 : arg6.IsWhole) (arg7 : Memref sig .tc .vmem S8x2x128x4x64 .bf16) (harg7 : arg7.IsWhole) (arg8 : Memref sig .tc .vmem S8x2x128x4x64 .bf16) (harg8 : arg8.IsWhole) (arg9 : Memref sig .tc .vmem S8x2x128x4x64 .bf16) (harg9 : arg9.IsWhole) (arg10 : Memref sig .tc .vmem S8x256x64 .bf16) (harg10 : arg10.IsWhole) (arg11 : Memref sig .tc .vmem S8x256x64 .bf16) (harg11 : arg11.IsWhole) (arg12 : Memref sig .tc .vmem S256x64 .bf16) (harg12 : arg12.IsWhole) (arg13 : Memref sig .tc .vmem S8x256x64 .bf16) (harg13 : arg13.IsWhole)
    (arg14 arg15 : DmaSems sig S4x7) (arg16 : DmaSems sig S4) : Pr F PUnit := do
  let d : Dev nD ← Prog.lift .deviceId
  for7 (signal d)
  waitBar
  for8 (fun j => do castHeads arg2 arg6 harg6 j; castHeads arg3 arg7 harg7 j)
  hereK arg6 arg8 harg6 harg8 (semLoc arg16 0) d
  hereK arg7 arg9 harg7 harg9 (semLoc arg16 1) d
  for7 (fun k => do
    sendK arg6 arg8 harg6 harg8 (semAt arg14 0 k) (semAt arg15 0 k) d (devK d k) k
    sendK arg7 arg9 harg7 harg9 (semAt arg14 1 k) (semAt arg15 1 k) d (devV d k) k)
  let x : Vec F S2x128x512 .f32 ← Prog.lift (.load arg0 (Rect.unit (s := S2x128x512) ![0, 0, 0] S2x128x512.size inb_S2x128x512_S2x128x512_0_0_0).toLoadRect (View.loadsAt_vmem h_S2x128x512))
  let wq : Vec F S512x256 .f32 ← Prog.lift (.load arg1 (Rect.unit (s := S512x256) ![0, 0] S512x256.size inb_S512x256_S512x256_0_0).toLoadRect (View.loadsAt_vmem h_S512x256))
  waitAt (semLoc arg16 0) (ownK arg6 d) (ownK arg8 d) (ownK_words _ harg6 d) (ownK_words _ harg8 d)
  waitAt (semLoc arg16 1) (ownK arg7 d) (ownK arg9 d) (ownK_words _ harg7 d) (ownK_words _ harg9 d)
  for7 (fun k => do
    waitAt (semAt arg15 0 k) (toK arg6 d k) (ownK arg8 d) (toK_words _ harg6 d k) (ownK_words _ harg8 d)
    waitAt (semAt arg15 1 k) (toK arg7 d k) (ownK arg9 d) (toK_words _ harg7 d k) (ownK_words _ harg9 d))
  let ka : Vec F S8x2x128x4x64 .bf16 ← Prog.lift (.load arg8 (Rect.unit (s := S8x2x128x4x64) ![0, 0, 0, 0, 0] S8x2x128x4x64.size inb_S8x2x128x4x64_S8x2x128x4x64_0_0_0_0_0).toLoadRect (View.loadsAt_vmem h_S8x2x128x4x64))
  let va : Vec F S8x2x128x4x64 .bf16 ← Prog.lift (.load arg9 (Rect.unit (s := S8x2x128x4x64) ![0, 0, 0, 0, 0] S8x2x128x4x64.size inb_S8x2x128x4x64_S8x2x128x4x64_0_0_0_0_0).toLoadRect (View.loadsAt_vmem h_S8x2x128x4x64))
  let wo : Vec F S256x512 .f32 ← Prog.lift (.load arg4 (Rect.unit (s := S256x512) ![0, 0] S256x512.size inb_S256x512_S256x512_0_0).toLoadRect (View.loadsAt_vmem h_S256x512))
  for8 (fun j => putBlock arg10 harg10 j (blocks (k0_pay20 x wq) ka va wo j))
  hereR arg10 arg11 harg10 harg11 (semLoc arg16 2) d
  for7 (fun k => sendR arg10 arg11 harg10 harg11 (semAt arg14 2 k) (semAt arg15 2 k) d (devR d k) k)
  for7 (fun k => do
    waitAt (semAt arg14 0 k) (ownK arg8 d) (toK arg6 d k) (ownK_words _ harg8 d) (toK_words _ harg6 d k)
    waitAt (semAt arg14 1 k) (ownK arg9 d) (toK arg7 d k) (ownK_words _ harg9 d) (toK_words _ harg7 d k))
  waitAt (semLoc arg16 2) (ownR arg10 d) (ownR arg11 d) (ownR_words _ harg10 d) (ownR_words _ harg11 d)
  for7 (fun k => waitAt (semAt arg15 2 k) (toR arg10 d k) (ownR arg11 d) (toR_words _ harg10 d k) (ownR_words _ harg11 d))
  let r : Vec F S8x256x64 .bf16 ← Prog.lift (.load arg11 (Rect.unit (s := S8x256x64) ![0, 0, 0] S8x256x64.size inb_S8x256x64_S8x256x64_0_0_0).toLoadRect (View.loadsAt_vmem h_S8x256x64))
  let _ : Vec F S256x64 .bf16 ← Prog.lift (.load arg12 (Rect.unit (s := S256x64) ![0, 0] S256x64.size inb_S256x64_S256x64_0_0).toLoadRect (View.loadsAt_vmem h_S256x64))
  Prog.lift (.store arg12 (Rect.unit (s := S256x64) ![0, 0] S256x64.size inb_S256x64_S256x64_0_0) (k0_pay49 r) Finset.univ (View.stores_vmem h_S256x64 (harg12.storeExact_slice rfl _ packedbf16_S256x64_S256x64_0_0) (fun _ => rfl)) (.inl rfl))
  hereA arg12 arg13 harg12 harg13 (semLoc arg16 3) d
  for7 (fun k => sendA arg12 arg13 harg12 harg13 (semAt arg14 3 k) (semAt arg15 3 k) d (devA d k))
  for7 (fun k => waitAt (semAt arg14 2 k) (ownR arg11 d) (toR arg10 d k) (ownR_words _ harg11 d) (toR_words _ harg10 d k))
  waitAt (semLoc arg16 3) arg12 (ownR arg13 d) harg12.wordExact (ownR_words _ harg13 d)
  for7 (fun k => waitAt (semAt arg15 3 k) arg12 (ownR arg13 d) harg12.wordExact (ownR_words _ harg13 d))
  let a0 ← getBlock arg13 0
  let a1 ← getBlock arg13 1
  let a2 ← getBlock arg13 2
  let a3 ← getBlock arg13 3
  let a4 ← getBlock arg13 4
  let a5 ← getBlock arg13 5
  let a6 ← getBlock arg13 6
  let a7 ← getBlock arg13 7
  let _ : Vec F S2x128x512 .f32 ← Prog.lift (.load arg5 (Rect.unit (s := S2x128x512) ![0, 0, 0] S2x128x512.size inb_S2x128x512_S2x128x512_0_0_0).toLoadRect (View.loadsAt_vmem h_S2x128x512))
  Prog.lift (.store arg5 (Rect.unit (s := S2x128x512) ![0, 0, 0] S2x128x512.size inb_S2x128x512_S2x128x512_0_0_0) (joined ![a0, a1, a2, a3, a4, a5, a6, a7]) Finset.univ (View.stores_vmem_bits_univ h_S2x128x512 rfl) (.inl rfl))
  for7 (fun k => waitAt (semAt arg14 3 k) (ownR arg13 d) arg12 (ownR_words _ harg13 d) harg12.wordExact)

set_option maxRecDepth 100000 in
set_option maxHeartbeats 4000000 in
/-- The printed body is the phases, one after the other. -/
theorem body_eq (arg0 : Memref sig .tc .vmem S2x128x512 .f32) (harg0 : arg0.IsWhole) (arg1 : Memref sig .tc .vmem S512x256 .f32) (harg1 : arg1.IsWhole) (arg2 : Memref sig .tc .vmem S2x128x32x64 .f32) (harg2 : arg2.IsWhole) (arg3 : Memref sig .tc .vmem S2x128x32x64 .f32) (harg3 : arg3.IsWhole) (arg4 : Memref sig .tc .vmem S256x512 .f32) (harg4 : arg4.IsWhole) (arg5 : Memref sig .tc .vmem S2x128x512 .f32) (harg5 : arg5.IsWhole) (arg6 : Memref sig .tc .vmem S8x2x128x4x64 .bf16) (harg6 : arg6.IsWhole) (arg7 : Memref sig .tc .vmem S8x2x128x4x64 .bf16) (harg7 : arg7.IsWhole) (arg8 : Memref sig .tc .vmem S8x2x128x4x64 .bf16) (harg8 : arg8.IsWhole) (arg9 : Memref sig .tc .vmem S8x2x128x4x64 .bf16) (harg9 : arg9.IsWhole) (arg10 : Memref sig .tc .vmem S8x256x64 .bf16) (harg10 : arg10.IsWhole) (arg11 : Memref sig .tc .vmem S8x256x64 .bf16) (harg11 : arg11.IsWhole) (arg12 : Memref sig .tc .vmem S256x64 .bf16) (harg12 : arg12.IsWhole) (arg13 : Memref sig .tc .vmem S8x256x64 .bf16) (harg13 : arg13.IsWhole)
    (arg14 arg15 : DmaSems sig S4x7) (arg16 : DmaSems sig S4) : cc0_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16
    = body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 := by
  rfl

end Cert.KernelIdeal.Mesh

end
-- ==== Proof.KernelIdeal.Devices.lean ====
/-
  The devices around the mesh: which device each step names, and the resource algebra of the proof.
-/
module

public import proofs.«01_k».proof.Proof.KernelIdeal.Phases
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The devices -/

/-- The device `k + 1` places after `c`, -/
def plus (c : Dev nD) (k : Fin 7) : Dev nD := ⟨(c.val + (k.val + 1)) % 8, Nat.mod_lt _ (by decide)⟩
/-- and the one `k + 1` places before it. -/
def minus (c : Dev nD) (k : Fin 7) : Dev nD := ⟨(c.val + (7 - k.val)) % 8, Nat.mod_lt _ (by decide)⟩

theorem minus_plus : ∀ (c : Dev nD) (k : Fin 7), minus (plus c k) k = c := by decide +kernel
theorem plus_minus : ∀ (c : Dev nD) (k : Fin 7), plus (minus c k) k = c := by decide +kernel
theorem plus_inj : ∀ (c : Dev nD) (k k' : Fin 7), plus c k = plus c k' → k = k' := by decide +kernel
theorem minus_inj : ∀ (c : Dev nD) (k k' : Fin 7), minus c k = minus c k' → k = k' := by decide +kernel
theorem plus_ne : ∀ (c : Dev nD) (k : Fin 7), plus c k ≠ c := by decide +kernel
theorem minus_ne : ∀ (c : Dev nD) (k : Fin 7), minus c k ≠ c := by decide +kernel

/-- The seven devices after `c`, and the seven before it, as injections. -/
def plusEmb (c : Dev nD) : Fin 7 ↪ Dev nD := ⟨plus c, plus_inj c⟩
def minusEmb (c : Dev nD) : Fin 7 ↪ Dev nD := ⟨minus c, minus_inj c⟩

theorem plus_cover : ∀ c : Dev nD, (Finset.univ : Finset (Dev nD)) = insert c (Finset.univ.map (plusEmb c)) := by decide +kernel
theorem minus_cover : ∀ c : Dev nD, (Finset.univ : Finset (Dev nD)) = insert c (Finset.univ.map (minusEmb c)) := by decide +kernel
theorem plus_fresh : ∀ c : Dev nD, c ∉ Finset.univ.map (plusEmb c) := by decide +kernel
theorem minus_fresh : ∀ c : Dev nD, c ∉ Finset.univ.map (minusEmb c) := by decide +kernel

/-- Every step names the device its loop index says. -/
theorem devS_eq : ∀ (c : Dev nD) (k : Fin 7), devS c k = plus c k := by decide +kernel
theorem devK_eq : ∀ (c : Dev nD) (k : Fin 7), devK c k = plus c k := by decide +kernel
theorem devV_eq : ∀ (c : Dev nD) (k : Fin 7), devV c k = plus c k := by decide +kernel
theorem devR_eq : ∀ (c : Dev nD) (k : Fin 7), devR c k = plus c k := by decide +kernel
theorem devA_eq : ∀ (c : Dev nD) (k : Fin 7), devA c k = plus c k := by decide +kernel

/-! ## The resource algebra -/

/-- Duties are named by the loop index of the device that pays. -/
abbrev UB : Type := URounds (GSem nD τ sig) (Fin 7)
abbrev UU : Type := UR sig nD τ × UB

variable {F : FTy → Type} [FloatOps F]

local notation "𝕄" => MT nD τ sig Unit (Elt F) ℕ UU ℕ

abbrev 𝒱₀ : Variants := Variants.none

/-- The weakest precondition of a program of device `c`. -/
abbrev run {α : Type} (c : Dev nD) (p : Pr F α) (Q : α → sProp 𝕄) : sProp 𝕄 :=
  wp frame (wpE (defs₀ (F := F)) 𝒱₀ (c : Thread nD τ) none) Set.univ p Q

/-- A conjunction over all devices is one over a device and the seven after it, -/
theorem bigSep_plus (c : Dev nD) (Φ : Dev nD → sProp 𝕄) :
    bigSep Finset.univ Φ = iprop(Φ c ∗ bigSep Finset.univ fun k : Fin 7 => Φ (plus c k)) := by
  rw [plus_cover c, bigSep_insert (plus_fresh c), bigSep_map]
  rfl
/-- or one over a device and the seven before it. -/
theorem bigSep_minus (c : Dev nD) (Φ : Dev nD → sProp 𝕄) :
    bigSep Finset.univ Φ = iprop(Φ c ∗ bigSep Finset.univ fun k : Fin 7 => Φ (minus c k)) := by
  rw [minus_cover c, bigSep_insert (minus_fresh c), bigSep_map]
  rfl

/-! ## Ownership -/

/-- Device `c` holds the memref outright and reads `X` through it. -/
abbrev own (c : Dev nD) {s : Shape} {e : EltTy} (b : Memref sig .tc .vmem s e) (X : s.Idx → Elt F e) : sProp 𝕄 :=
  owns (Ix := Unit) (Name := ℕ) (U := UU) (Lvl := ℕ) (c : Thread nD τ) b fullShare X

/-- Device `c` holds the memref outright, whatever it reads. -/
abbrev free (c : Dev nD) {s : Shape} {e : EltTy} (b : Memref sig .tc .vmem s e) : sProp 𝕄 := iprop(∃ X, own (F := F) c b X)

end Cert.KernelIdeal.Mesh

end
-- ==== Proof.KernelIdeal.Slots.lean ====
/-
  Ownership of buffers of eight slots: a buffer held slot by slot, and the loads and stores of one slot,
  each as a statement about the contents a memref reads.
-/
module

public import proofs.«01_k».proof.Proof.KernelIdeal.Devices

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Holding a memref -/

/-- The memref's elements on device `c`, outright, at contents `f` of the buffer. -/
abbrev pts (c : Dev nD) {s : Shape} {e : EltTy} (b : Memref sig .tc .vmem s e) (f : b.view.ty.Contents (Elt F)) : sProp 𝕄 :=
  (b.view.loc (c : Thread nD τ) ↦[b.view.set]{fullShare} f)

theorem own_intro (c : Dev nD) {s : Shape} {e : EltTy} (b : Memref sig .tc .vmem s e) (f : b.view.ty.Contents (Elt F))
    (X : s.Idx → Elt F e) (h : b.view.read (Elt F) f = X) : pts c b f ⊢ own (F := F) c b X := by
  subst h; exact owns_intro (c : Thread nD τ) b fullShare f

theorem own_elim (c : Dev nD) {s : Shape} {e : EltTy} (b : Memref sig .tc .vmem s e) (X : s.Idx → Elt F e) (Q : sProp 𝕄)
    (h : ∀ f, b.view.read (Elt F) f = X → pts c b f ⊢ Q) : own (F := F) c b X ⊢ Q := by
  show iprop(∃ f : Buf (Elt F) (b.view.loc (c : Thread nD τ)), ⌜b.view.read (Elt F) f = X⌝ ∗ pts c b f) ⊢ Q
  iintro ⟨%f, %hf, H⟩
  iapply (h f hf)
  iexact H

/-- Contents that read the same through a memref are the same contents of its elements. -/
theorem pts_read (c : Dev nD) {s : Shape} {e : EltTy} (b : Memref sig .tc .vmem s e) (f g : b.view.ty.Contents (Elt F))
    (h : b.view.read (Elt F) f = b.view.read (Elt F) g) : pts (F := F) c b f = pts c b g := by
  refine pointsTo_congr fun i hi => ?_
  obtain ⟨x, -, rfl⟩ := Finset.mem_map.mp hi
  have hx := congrFun h x
  rw [View.read_apply, View.read_apply] at hx
  exact (cast_inj _).mp hx

section Pieces

variable {s s' : Shape} {e : EltTy} (off : Fin 8 → Fin s.rank → ℕ) (size : Fin s.rank → ℕ)
  (inb : ∀ j a, off j a + size a ≤ s.size a) (hsq : (⟨s.rank, size⟩ : Shape).Squeezes s')

/-- The slot at `off j`, squeezed. -/
abbrev piece (b : Memref sig .tc .vmem s e) (j : Fin 8) : Memref sig .tc .vmem s' e :=
  (b.slice (Rect.unit (s := s) (off j) size (inb j)) (fun _ => rfl)).squeeze s' hsq

/-- Where an element of slot `j` lies in the buffer. -/
def spot (j : Fin 8) (i : s'.Idx) : s.Idx := (Rect.unit (s := s) (off j) size (inb j)).emb (Shape.reshapeEquiv hsq.numel_eq i)

variable (hd : ∀ j j', j ≠ j' → Disjoint (Rect.unit (s := s) (off j) size (inb j)).set (Rect.unit (s := s) (off j') size (inb j')).set)
  (hc : Finset.univ.biUnion (fun j => (Rect.unit (s := s) (off j) size (inb j)).set) = Finset.univ)

omit [FloatOps F] in
theorem piece_set (b : Memref sig .tc .vmem s e) (j : Fin 8) :
    (piece off size inb hsq b j).view.set = (Rect.unit (s := s) (off j) size (inb j)).set.map b.view.emb := by
  show ((b.view.slice (Rect.unit (s := s) (off j) size (inb j))).reshape s' hsq.numel_eq).set = _
  rw [View.set_reshape, View.set_slice]

omit [FloatOps F] in
theorem piece_read (b : Memref sig .tc .vmem s e) (j : Fin 8) (f : b.view.ty.Contents (Elt F)) (i : s'.Idx) :
    (piece off size inb hsq b j).view.read (Elt F) f i = b.view.read (Elt F) f (spot off size inb hsq j i) := rfl

include hd in
omit [FloatOps F] in
theorem piece_disjoint (b : Memref sig .tc .vmem s e) (j j' : Fin 8) (h : j ≠ j') :
    Disjoint (piece off size inb hsq b j).view.set (piece off size inb hsq b j').view.set := by
  rw [piece_set, piece_set]
  exact (Finset.disjoint_map _).mpr (hd j j' h)

include hc in
omit [FloatOps F] in
theorem piece_cover (b : Memref sig .tc .vmem s e) :
    Finset.univ.biUnion (fun j => (piece off size inb hsq b j).view.set) = b.view.set := by
  rw [show (fun j => (piece off size inb hsq b j).view.set) = fun j => (Rect.unit (s := s) (off j) size (inb j)).set.map b.view.emb from
    funext fun j => piece_set off size inb hsq b j]
  ext i
  simp only [Finset.mem_biUnion, Finset.mem_univ, true_and, Finset.mem_map]
  constructor
  · rintro ⟨j, a, -, rfl⟩; exact View.emb_mem_set _ a
  · intro hi
    obtain ⟨a, -, rfl⟩ := Finset.mem_map.mp hi
    have ha : a ∈ Finset.univ.biUnion (fun j => (Rect.unit (s := s) (off j) size (inb j)).set) := hc ▸ Finset.mem_univ a
    obtain ⟨j, -, hj⟩ := Finset.mem_biUnion.mp ha
    exact ⟨j, a, hj, rfl⟩

include hd hc in
/-- A buffer held outright is held slot by slot, -/
theorem pieces_split (c : Dev nD) (b : Memref sig .tc .vmem s e) (X : s.Idx → Elt F e) :
    own (F := F) c b X ⊢ bigSep Finset.univ fun j => own c (piece off size inb hsq b j) fun i => X (spot off size inb hsq j i) := by
  refine own_elim c b X _ fun f hf => ?_
  refine (Entails.of_eq (Idealize.ShloMosaic.Ring.pointsTo_sub_blocks (ℓ := b.view.loc (c : Thread nD τ))
    (fun j : Fin 8 => ((piece off size inb hsq b j).view.set : Finset (Idx (b.view.loc (c : Thread nD τ)))))
    (piece_disjoint off size inb hsq hd b) b.view.set (piece_cover off size inb hsq hc b) f)).trans ?_
  exact bigSep_mono fun j _ => own_intro c (piece off size inb hsq b j) f _ (by subst hf; rfl)

include hd hc in
/-- and slots held at the parts of some contents are the buffer held at them. -/
theorem pieces_join (c : Dev nD) (b : Memref sig .tc .vmem s e) (X : s.Idx → Elt F e) :
    (bigSep Finset.univ fun j => own (F := F) c (piece off size inb hsq b j) fun i => X (spot off size inb hsq j i)) ⊢ own c b X := by
  have hall : ∀ f₀ : b.view.ty.Contents (Elt F),
      (bigSep Finset.univ fun j => own (F := F) c (piece off size inb hsq b j) fun i => X (spot off size inb hsq j i))
        ⊢ own c b X := fun f₀ => by
    refine (bigSep_mono (Ψ := fun j => pts c (piece off size inb hsq b j) (b.view.write (Elt F) f₀ X Finset.univ)) fun j _ =>
      own_elim c _ _ _ fun f hf => Entails.of_eq (pts_read c _ _ _ (hf.trans ?_))).trans ?_
    · refine funext fun i => ?_
      rw [piece_read, View.read_write_univ]
    refine (Entails.of_eq (Idealize.ShloMosaic.Ring.pointsTo_sub_blocks (ℓ := b.view.loc (c : Thread nD τ))
      (fun j : Fin 8 => ((piece off size inb hsq b j).view.set : Finset (Idx (b.view.loc (c : Thread nD τ)))))
      (piece_disjoint off size inb hsq hd b) b.view.set (piece_cover off size inb hsq hc b) _).symm).trans ?_
    exact own_intro c b _ X (View.read_write_univ _ _)
  rw [bigSep_erase (Finset.mem_univ (0 : Fin 8))]
  refine BI.wand_elim (own_elim c _ _ _ fun f hf => BI.wand_intro ?_)
  refine (sep_mono_left (own_intro c _ f _ hf)).trans ?_
  refine .trans ?_ (hall f)
  rw [bigSep_erase (Φ := fun j => own (F := F) c (piece off size inb hsq b j) fun i => X (spot off size inb hsq j i)) (Finset.mem_univ (0 : Fin 8))]
  exact BI.Entails.refl _

include hd hc in
/-- Slots held at anything are the buffer held at something. -/
theorem pieces_free (c : Dev nD) (b : Memref sig .tc .vmem s e) (G : (Fin 8 → s'.Idx → Elt F e) → s.Idx → Elt F e)
    (hG : ∀ Y j i, G Y (spot off size inb hsq j i) = Y j i) :
    (bigSep Finset.univ fun j => free (F := F) c (piece off size inb hsq b j)) ⊢ free c b := by
  by_cases hY : Nonempty (s'.Idx → Elt F e)
  · refine (Idealize.SL.BI.bigSep_exists_pi Finset.univ fun (j : Fin 8) (X : s'.Idx → Elt F e) => own (F := F) c (piece off size inb hsq b j) X).trans ?_
    iintro ⟨%Y, H⟩
    iexists G Y
    iapply (pieces_join off size inb hsq hd hc c b (G Y))
    simp only [hG]
    iexact H
  · rw [bigSep_erase (Finset.mem_univ (0 : Fin 8))]
    show iprop(free c (piece off size inb hsq b 0) ∗ _) ⊢ _
    iintro ⟨⟨%X, -⟩, -⟩
    exact absurd ⟨X⟩ hY

/-- A load of slot `j` reads the slot's contents, with the leading axis back. -/
theorem load_piece (c : Dev nD) (b : Memref sig .tc .vmem s e) (j : Fin 8) (X : s'.Idx → Elt F e)
    (hl : b.view.LoadsAt (Rect.unit (s := s) (off j) size (inb j)).toLoadRect) :
    own (F := F) c (piece off size inb hsq b j) X
      ⊢ run c (Prog.lift (.load b (Rect.unit (s := s) (off j) size (inb j)).toLoadRect hl))
          fun v => iprop(⌜v = fun x => X ((Shape.reshapeEquiv hsq.numel_eq).symm x)⌝ ∗ own c (piece off size inb hsq b j) X) := by
  refine own_elim c _ _ _ fun f hf => ?_
  iintro H
  iapply (wp_load_rect 𝒱₀ (c : Thread nD τ) none Set.univ (m := b) (r := Rect.unit (s := s) (off j) size (inb j))
    (S := (piece off size inb hsq b j).view.set) (f := f) (by
      show _ ⊆ ((b.view.slice (Rect.unit (s := s) (off j) size (inb j))).reshape s' hsq.numel_eq).set
      rw [View.set_reshape])) $$ H
  iintro H
  rw [wp_ret]; imodintro
  isplitr
  · ipureintro
    subst hf
    refine funext fun x => ?_
    show _ = b.view.read (Elt F) f ((Rect.unit (s := s) (off j) size (inb j)).emb (Shape.reshapeEquiv hsq.numel_eq ((Shape.reshapeEquiv hsq.numel_eq).symm x)))
    rw [Equiv.apply_symm_apply]; rfl
  iapply (own_intro c (piece off size inb hsq b j) f X hf)
  iexact H

/-- A store to slot `j` leaves what is stored, its leading axis dropped. -/
theorem store_piece (c : Dev nD) (b : Memref sig .tc .vmem s e) (j : Fin 8) (X : s'.Idx → Elt F e)
    (w : (Rect.unit (s := s) (off j) size (inb j)).shape.Idx → Elt F e)
    (hx : (b.access (Rect.unit (s := s) (off j) size (inb j))).Stores Finset.univ)
    (hm : (Finset.univ : Finset (Rect.unit (s := s) (off j) size (inb j)).shape.Idx) = Finset.univ
      ∨ ∀ a, (Rect.unit (s := s) (off j) size (inb j)).stride a = 1) :
    own (F := F) c (piece off size inb hsq b j) X
      ⊢ run c (Prog.lift (.store b (Rect.unit (s := s) (off j) size (inb j)) w Finset.univ hx hm))
          fun _ => own c (piece off size inb hsq b j) fun i => w (Shape.reshapeEquiv hsq.numel_eq i) := by
  refine own_elim c _ _ _ fun f hf => ?_
  iintro H
  iapply (wp_store 𝒱₀ (c : Thread nD τ) none Set.univ (m := b) (r := Rect.unit (s := s) (off j) size (inb j)) (Mk := Finset.univ)
    (S := (piece off size inb hsq b j).view.set) (f := f) (by
      show _ ⊆ ((b.view.slice (Rect.unit (s := s) (off j) size (inb j))).reshape s' hsq.numel_eq).set
      rw [View.set_reshape, View.setOn_univ])) $$ H
  iintro H
  rw [wp_ret]; imodintro
  iapply (own_intro c (piece off size inb hsq b j) _ _ (by
    refine funext fun i => ?_
    show (b.view.slice (Rect.unit (s := s) (off j) size (inb j))).read (Elt F) _ (Shape.reshapeEquiv hsq.numel_eq i) = _
    rw [View.read_write_univ]))
  iexact H

end Pieces

/-! ## Loads and stores of a whole memref -/

section Whole

variable {s : Shape} {e : EltTy}

omit [FloatOps F] in
/-- The rectangle of a whole shape leaves every index where it is. -/
theorem whole_emb (off : Fin s.rank → ℕ) (h0 : off = fun _ => 0) (inb : ∀ a, off a + s.size a ≤ s.size a) (x : s.Idx) :
    (Rect.unit (s := s) off s.size inb).emb x = x := by
  subst h0
  refine funext fun a => Fin.ext ?_
  show 0 + 1 * (x a).val = (x a).val
  omega

/-- A load through a rectangle reads the contents there. -/
theorem load_rect (c : Dev nD) (b : Memref sig .tc .vmem s e) (r : Rect s) (X : s.Idx → Elt F e) (hl : b.view.LoadsAt r.toLoadRect) :
    own (F := F) c b X ⊢ run c (Prog.lift (.load b r.toLoadRect hl)) fun v => iprop(⌜v = fun x => X (r.emb x)⌝ ∗ own c b X) := by
  refine own_elim c _ _ _ fun f hf => ?_
  iintro H
  iapply (wp_load_rect 𝒱₀ (c : Thread nD τ) none Set.univ (m := b) (r := r) (S := b.view.set) (f := f) (View.set_slice_subset _ r)) $$ H
  iintro H
  rw [wp_ret]; imodintro
  isplitr
  · ipureintro; subst hf; rfl
  iapply (own_intro c b f X hf)
  iexact H

/-- A load of everything reads the contents. -/
theorem load_all (c : Dev nD) (b : Memref sig .tc .vmem s e) (off : Fin s.rank → ℕ) (h0 : off = fun _ => 0)
    (inb : ∀ a, off a + s.size a ≤ s.size a) (X : s.Idx → Elt F e) (hl : b.view.LoadsAt (Rect.unit (s := s) off s.size inb).toLoadRect) :
    own (F := F) c b X ⊢ run c (Prog.lift (.load b (Rect.unit (s := s) off s.size inb).toLoadRect hl)) fun v => iprop(⌜v = X⌝ ∗ own c b X) := by
  refine (load_rect c b _ X hl).trans (wp_mono _ _ _ fun v => ?_)
  iintro ⟨%hv, H⟩
  isplitr
  · ipureintro; rw [hv]; exact funext fun x => congrArg X (whole_emb off h0 inb x)
  iexact H

/-- A store of everything leaves what is stored. -/
theorem store_all (c : Dev nD) (b : Memref sig .tc .vmem s e) (off : Fin s.rank → ℕ) (h0 : off = fun _ => 0)
    (inb : ∀ a, off a + s.size a ≤ s.size a) (X w : s.Idx → Elt F e)
    (hx : (b.access (Rect.unit (s := s) off s.size inb)).Stores Finset.univ)
    (hm : (Finset.univ : Finset (Rect.unit (s := s) off s.size inb).shape.Idx) = Finset.univ
      ∨ ∀ a, (Rect.unit (s := s) off s.size inb).stride a = 1) :
    own (F := F) c b X ⊢ run c (Prog.lift (.store b (Rect.unit (s := s) off s.size inb) w Finset.univ hx hm)) fun _ => own c b w := by
  refine own_elim c _ _ _ fun f hf => ?_
  iintro H
  iapply (wp_store 𝒱₀ (c : Thread nD τ) none Set.univ (m := b) (r := Rect.unit (s := s) off s.size inb) (Mk := Finset.univ)
    (S := b.view.set) (f := f) (View.set_slice_subset _ _)) $$ H
  iintro H
  rw [wp_ret]; imodintro
  iapply (own_intro c b _ w (by
    refine funext fun i => ?_
    have h := congrFun (View.read_write_univ (v := b.view.slice (Rect.unit (s := s) off s.size inb)) (Val := Elt F) f w) i
    have he : (b.view.slice (Rect.unit (s := s) off s.size inb)).read (Elt F)
        ((b.view.slice (Rect.unit (s := s) off s.size inb)).write (Elt F) f w Finset.univ) i
        = b.view.read (Elt F) ((b.view.slice (Rect.unit (s := s) off s.size inb)).write (Elt F) f w Finset.univ)
            ((Rect.unit (s := s) off s.size inb).emb i) := rfl
    rw [whole_emb off h0 inb i] at he
    exact he.symm.trans h))
  iexact H

end Whole

end Cert.KernelIdeal.Mesh

end
-- ==== Proof.KernelIdeal.Schedule.lean ====
/-
  The eight scratch buffers and their slots, and the protocol: for each semaphore the duties, what each
  is worth and what its payment hands over.
-/
module

public import proofs.«01_k».proof.Proof.KernelIdeal.Slots

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The scratch buffers -/

/-- The rounded keys and values to send, by target; -/
abbrev kS : KBuf := Memref.whole cc0_scratch0
abbrev vS : KBuf := Memref.whole cc0_scratch1
/-- the keys and values gathered, by source; -/
abbrev kA : KBuf := Memref.whole cc0_scratch2
abbrev vA : KBuf := Memref.whole cc0_scratch3
/-- this device's partial output, by target; the partial outputs gathered, by source; -/
abbrev mB : RBuf := Memref.whole cc0_scratch4
abbrev rB : RBuf := Memref.whole cc0_scratch5
/-- the summed block to send, and the summed blocks gathered, by source. -/
abbrev aS : Memref sig .tc .vmem S256x64 .bf16 := Memref.whole cc0_scratch6
abbrev aB : RBuf := Memref.whole cc0_scratch7

/-- Slot `j` of a buffer. -/
abbrev sK (b : KBuf) (j : Fin 8) := slotK b ![j.val, 0, 0, 0, 0] (inbK j)
abbrev sR (b : RBuf) (j : Fin 8) := slotR b ![j.val, 0, 0] (inbR j)

theorem slotK_congr (b : KBuf) {off off' : Fin 5 → ℕ} (h : off = off') (h1) (h2) : slotK b off h1 = slotK b off' h2 := by
  subst h; rfl
theorem slotR_congr (b : RBuf) {off off' : Fin 3 → ℕ} (h : off = off') (h1) (h2) : slotR b off h1 = slotR b off' h2 := by
  subst h; rfl

theorem off2_eq : ∀ (d : Dev nD) (k : Fin 7), k0_off2 d (BitVec.ofNat 32 (1 + k.val)) = ![(plus d k).val, 0, 0, 0, 0] := by decide +kernel
theorem off4_eq : ∀ (d : Dev nD) (k : Fin 7), k0_off4 d (BitVec.ofNat 32 (1 + k.val)) = ![(plus d k).val, 0, 0] := by decide +kernel

theorem ownK_eq (b : KBuf) (d : Dev nD) : ownK b d = sK b d := slotK_congr b (k0_off1_eq d) _ _
theorem toK_eq (b : KBuf) (d : Dev nD) (k : Fin 7) : toK b d k = sK b (plus d k) := slotK_congr b (off2_eq d k) _ _
theorem ownR_eq (b : RBuf) (d : Dev nD) : ownR b d = sR b d := slotR_congr b (k0_off3_eq d) _ _
theorem toR_eq (b : RBuf) (d : Dev nD) (k : Fin 7) : toR b d k = sR b (plus d k) := slotR_congr b (off4_eq d k) _ _

/-! ### A buffer and its slots -/

abbrev offK (j : Fin 8) : Fin 5 → ℕ := ![j.val, 0, 0, 0, 0]
abbrev offR (j : Fin 8) : Fin 3 → ℕ := ![j.val, 0, 0]

/-- Where element `i` of slot `j` lies, -/
abbrev spotK (j : Fin 8) (i : S2x128x4x64.Idx) : S8x2x128x4x64.Idx := spot (s := S8x2x128x4x64) offK S1x2x128x4x64.size inbK squeezes_S1x2x128x4x64_S2x128x4x64 j i
abbrev spotR (j : Fin 8) (i : S256x64.Idx) : S8x256x64.Idx := spot (s := S8x256x64) offR S1x256x64.size inbR squeezes_S1x256x64_S256x64 j i

/-- The contents of a buffer whose slot `j` holds `Y j`. -/
def gatherK {e : EltTy} (Y : Fin 8 → S2x128x4x64.Idx → Elt F e) : S8x2x128x4x64.Idx → Elt F e := fun i => Y (i 0) fun a => i a.succ
def gatherR {e : EltTy} (Y : Fin 8 → S256x64.Idx → Elt F e) : S8x256x64.Idx → Elt F e := fun i => Y (i 0) fun a => i a.succ

theorem spotK_zero (j : Fin 8) (i : S2x128x4x64.Idx) : spotK j i 0 = j := by
  refine Fin.ext ?_
  unfold spotK spot
  rw [Shape.reshapeEquiv_cons_one]
  show j.val + 1 * 0 = j.val
  omega
theorem spotK_succ (j : Fin 8) (i : S2x128x4x64.Idx) (a : Fin 4) : (spotK j i a.succ).val = (i a).val := by
  unfold spotK spot
  rw [Shape.reshapeEquiv_cons_one]
  rw [Rect.emb_apply]
  fin_cases a <;> exact (Nat.zero_add _).trans (Nat.one_mul _)
theorem spotR_zero (j : Fin 8) (i : S256x64.Idx) : spotR j i 0 = j := by
  refine Fin.ext ?_
  unfold spotR spot
  rw [Shape.reshapeEquiv_cons_one]
  show j.val + 1 * 0 = j.val
  omega
theorem spotR_succ (j : Fin 8) (i : S256x64.Idx) (a : Fin 2) : (spotR j i a.succ).val = (i a).val := by
  unfold spotR spot
  rw [Shape.reshapeEquiv_cons_one]
  rw [Rect.emb_apply]
  fin_cases a <;> exact (Nat.zero_add _).trans (Nat.one_mul _)

theorem gatherK_spot {e : EltTy} (Y : Fin 8 → S2x128x4x64.Idx → Elt F e) (j : Fin 8) (i : S2x128x4x64.Idx) : gatherK Y (spotK j i) = Y j i := by
  unfold gatherK
  rw [spotK_zero]
  exact congrArg (Y j) (funext fun a => Fin.ext (spotK_succ j i a))
theorem gatherR_spot {e : EltTy} (Y : Fin 8 → S256x64.Idx → Elt F e) (j : Fin 8) (i : S256x64.Idx) : gatherR Y (spotR j i) = Y j i := by
  unfold gatherR
  rw [spotR_zero]
  exact congrArg (Y j) (funext fun a => Fin.ext (spotR_succ j i a))

theorem disjK (j j' : Fin 8) (h : j ≠ j') : Disjoint (rectK j).set (rectK j').set :=
  Ring.lead_disjoint (s := S8x2x128x4x64) (0 : Fin 5) 1 offK S1x2x128x4x64.size inbK (fun b => (Nat.one_mul _).symm) rfl j j' h
theorem coverK : Finset.univ.biUnion (fun j => (rectK j).set) = Finset.univ :=
  Ring.lead_cover (s := S8x2x128x4x64) (0 : Fin 5) 1 offK S1x2x128x4x64.size inbK (fun b => (Nat.one_mul _).symm)
    (fun b a h => by fin_cases a <;> first | rfl | exact absurd rfl h) rfl (fun a h => by fin_cases a <;> first | rfl | exact absurd rfl h) rfl
theorem disjR (j j' : Fin 8) (h : j ≠ j') : Disjoint (rectR j).set (rectR j').set :=
  Ring.lead_disjoint (s := S8x256x64) (0 : Fin 3) 1 offR S1x256x64.size inbR (fun b => (Nat.one_mul _).symm) rfl j j' h
theorem coverR : Finset.univ.biUnion (fun j => (rectR j).set) = Finset.univ :=
  Ring.lead_cover (s := S8x256x64) (0 : Fin 3) 1 offR S1x256x64.size inbR (fun b => (Nat.one_mul _).symm)
    (fun b a h => by fin_cases a <;> first | rfl | exact absurd rfl h) rfl (fun a h => by fin_cases a <;> first | rfl | exact absurd rfl h) rfl

/-- A buffer held at anything is its eight slots held at anything; -/
theorem splitK (c : Dev nD) (b : KBuf) : free (F := F) c b ⊢ bigSep Finset.univ fun j => free c (sK b j) := by
  iintro ⟨%X, H⟩
  iapply ((pieces_split (s := S8x2x128x4x64) offK S1x2x128x4x64.size inbK squeezes_S1x2x128x4x64_S2x128x4x64 disjK coverK c b X).trans (bigSep_mono fun j _ =>
    show own c (sK b j) _ ⊢ free c (sK b j) by iintro H; iexists _; iexact H))
  iexact H
theorem splitR (c : Dev nD) (b : RBuf) : free (F := F) c b ⊢ bigSep Finset.univ fun j => free c (sR b j) := by
  iintro ⟨%X, H⟩
  iapply ((pieces_split (s := S8x256x64) offR S1x256x64.size inbR squeezes_S1x256x64_S256x64 disjR coverR c b X).trans (bigSep_mono fun j _ =>
    show own c (sR b j) _ ⊢ free c (sR b j) by iintro H; iexists _; iexact H))
  iexact H

/-- eight slots held at known contents are the buffer held at those; -/
theorem joinK (c : Dev nD) (b : KBuf) (Y : Fin 8 → S2x128x4x64.Idx → Elt F .bf16) :
    (bigSep Finset.univ fun j => own c (sK b j) (Y j)) ⊢ own (F := F) c b (gatherK Y) := by
  refine .trans (Entails.of_eq ?_) (pieces_join (s := S8x2x128x4x64) offK S1x2x128x4x64.size inbK squeezes_S1x2x128x4x64_S2x128x4x64 disjK coverK c b (gatherK Y))
  exact bigSep_congr fun j _ => congrArg (own c (sK b j)) (funext fun i => (gatherK_spot Y j i).symm)
theorem joinR (c : Dev nD) (b : RBuf) (Y : Fin 8 → S256x64.Idx → Elt F .bf16) :
    (bigSep Finset.univ fun j => own c (sR b j) (Y j)) ⊢ own (F := F) c b (gatherR Y) := by
  refine .trans (Entails.of_eq ?_) (pieces_join (s := S8x256x64) offR S1x256x64.size inbR squeezes_S1x256x64_S256x64 disjR coverR c b (gatherR Y))
  exact bigSep_congr fun j _ => congrArg (own c (sR b j)) (funext fun i => (gatherR_spot Y j i).symm)

/-- and eight slots held at anything are the buffer held at something. -/
theorem freeK (c : Dev nD) (b : KBuf) : (bigSep Finset.univ fun j => free c (sK b j)) ⊢ free (F := F) c b :=
  pieces_free (s := S8x2x128x4x64) offK S1x2x128x4x64.size inbK squeezes_S1x2x128x4x64_S2x128x4x64 disjK coverK c b gatherK gatherK_spot
theorem freeR (c : Dev nD) (b : RBuf) : (bigSep Finset.univ fun j => free c (sR b j)) ⊢ free (F := F) c b :=
  pieces_free (s := S8x256x64) offR S1x256x64.size inbR squeezes_S1x256x64_S256x64 disjR coverR c b gatherR gatherR_spot

/-! ## The semaphores -/

/-- A device's semaphores: its barrier; per transfer row (keys, values, partial outputs, summed blocks) and loop index
    the one its send completes on and the one a landing completes on; the four of its local copies. -/
abbrev Cel : Type := Unit ⊕ (Fin 4 × Fin 7) ⊕ (Fin 4 × Fin 7) ⊕ Fin 4
abbrev bar : Cel := .inl ()
abbrev snd (r : Fin 4) (k : Fin 7) : Cel := .inr (.inl (r, k))
abbrev rcv (r : Fin 4) (k : Fin 7) : Cel := .inr (.inr (.inl (r, k)))
abbrev loc (l : Fin 4) : Cel := .inr (.inr (.inr l))

def semOf : Cel → SemLoc sig
  | .inl _ => .reg barS
  | .inr (.inl (r, k)) => .dma (semAt cc0_scratch8 r k)
  | .inr (.inr (.inl (r, k))) => .dma (semAt cc0_scratch9 r k)
  | .inr (.inr (.inr l)) => .dma (semLoc cc0_scratch10 l)

/-- The number a semaphore bears. -/
def number : SemLoc sig → ℕ
  | .reg _ => 66
  | .dma q => q.val
theorem number_snd : ∀ r k, number (semOf (snd r k)) = 6 + 7 * r.val + k.val := by decide +kernel
theorem number_rcv : ∀ r k, number (semOf (rcv r k)) = 34 + 7 * r.val + k.val := by decide +kernel
theorem number_loc : ∀ l, number (semOf (loc l)) = 62 + l.val := by decide +kernel
theorem number_bar (u : Unit) : number (semOf (.inl u)) = 66 := rfl

theorem semOf_inj : Function.Injective semOf := by
  intro x y h
  have hn := congrArg number h
  rcases x with ⟨⟩ | ⟨r, k⟩ | ⟨r, k⟩ | l <;> rcases y with ⟨⟩ | ⟨r', k'⟩ | ⟨r', k'⟩ | l' <;>
    simp only [number_snd, number_rcv, number_loc, number_bar] at hn
  · rfl
  all_goals try omega
  · obtain rfl : r = r' := Fin.ext (by omega)
    obtain rfl : k = k' := Fin.ext (by omega)
    rfl
  · obtain rfl : r = r' := Fin.ext (by omega)
    obtain rfl : k = k' := Fin.ext (by omega)
    rfl
  · obtain rfl : l = l' := Fin.ext (by omega)
    rfl

/-- Which of them a semaphore is, if one. -/
def celOf (s : SemLoc sig) : Option Cel := if h : ∃ x, semOf x = s then some h.choose else none
theorem celOf_semOf (x : Cel) : celOf (semOf x) = some x := by
  have h : ∃ y, semOf y = semOf x := ⟨x, rfl⟩
  unfold celOf
  rw [dif_pos h]
  exact congrArg some (semOf_inj h.choose_spec)
theorem celOf_none (s : SemLoc sig) (h : ∀ x, semOf x ≠ s) : celOf s = none := dif_neg fun ⟨x, hx⟩ => h x hx

abbrev cell (c : Dev nD) (x : Cel) : GSem nD τ sig := ((c : Thread nD τ), semOf x)

/-! ## What is handed over -/

/-- The contents that travel: the keys and the values device `c` sends device `j`, the partial output it sends device `j`, the
    summed block it sends everyone. -/
structure Cargo (F : FTy → Type) [FloatOps F] where
  K : Dev nD → Dev nD → S2x128x4x64.Idx → Elt F .bf16
  V : Dev nD → Dev nD → S2x128x4x64.Idx → Elt F .bf16
  M : Dev nD → Dev nD → S256x64.Idx → Elt F .bf16
  A : Dev nD → S256x64.Idx → Elt F .bf16

/-- Device `c` holds a share of the memref and reads `X` through it. -/
abbrev part (c : Dev nD) {s : Shape} {e : EltTy} (b : Memref sig .tc .vmem s e) (q : PosShare TreeShare) (X : s.Idx → Elt F e) : sProp 𝕄 :=
  owns (Ix := Unit) (Name := ℕ) (U := UU) (Lvl := ℕ) (c : Thread nD τ) b q X

/-- The share of the summed block lent to the `k`-th send, and the one lent to the local copy. -/
abbrev tok (k : Fin 7) : PosShare TreeShare := Transfers.shareTok fullShare 7 k
abbrev rest : PosShare TreeShare := Transfers.shareDrop fullShare 7

abbrev NK : ℕ := (sK kS 0).view.dmaCredit
abbrev NR : ℕ := (sR mB 0).view.dmaCredit

/-- What a transfer of each row is worth. -/
def worth (r : Fin 4) : ℕ := if r.val < 2 then NK else NR
/-- What each duty is worth; -/
def amt : Cel → ℕ
  | .inl _ => 1
  | .inr (.inl (r, _)) => worth r
  | .inr (.inr (.inl (r, _))) => worth r
  | .inr (.inr (.inr l)) => worth l
/-- the duties; -/
def dut : Cel → Finset (Fin 7)
  | .inl _ => Finset.univ
  | .inr _ => {0}

/-- a landing of row `r` from device `s`; -/
def landed (Y : Cargo F) (c s : Dev nD) (r : Fin 4) : sProp 𝕄 :=
  match r with
  | ⟨0, _⟩ => own c (sK kA s) (Y.K s c)
  | ⟨1, _⟩ => own c (sK vA s) (Y.V s c)
  | ⟨2, _⟩ => own c (sR rB s) (Y.M s c)
  | ⟨_ + 3, _⟩ => own c (sR aB s) (Y.A s)
/-- the source of a send of row `r` to device `t`, given back; -/
def lent (Y : Cargo F) (c t : Dev nD) (q : PosShare TreeShare) (r : Fin 4) : sProp 𝕄 :=
  match r with
  | ⟨0, _⟩ => free c (sK kS t)
  | ⟨1, _⟩ => free c (sK vS t)
  | ⟨2, _⟩ => free c (sR mB t)
  | ⟨_ + 3, _⟩ => part c aS q (Y.A c)
/-- the four landing slots of device `s` that `c` will fill. -/
def opened (c s : Dev nD) : sProp 𝕄 :=
  iprop(free (F := F) s (sK kA c) ∗ free s (sK vA c) ∗ free s (sR rB c) ∗ free s (sR aB c))

/-- What paying a duty of device `c`'s semaphore `x` hands `c`. -/
def pay (Y : Cargo F) (c : Dev nD) : Cel → Fin 7 → sProp 𝕄
  | .inl _, k => opened c (minus c k)
  | .inr (.inl (r, k)), _ => lent Y c (plus c k) (tok k) r
  | .inr (.inr (.inl (r, k))), _ => landed Y c (minus c k) r
  | .inr (.inr (.inr l)), _ => iprop(landed Y c c l ∗ lent Y c c rest l)

instance landed_storable (Y : Cargo F) (c s : Dev nD) (r : Fin 4) : BI.Storable (upEmb : UEmb _ 𝕄) (landed Y c s r) := by
  unfold landed; split <;> infer_instance
instance lent_storable (Y : Cargo F) (c t : Dev nD) (q : PosShare TreeShare) (r : Fin 4) : BI.Storable (upEmb : UEmb _ 𝕄) (lent Y c t q r) := by
  unfold lent; split <;> infer_instance
instance opened_storable (c s : Dev nD) : BI.Storable (upEmb : UEmb _ 𝕄) (opened (F := F) c s) := by unfold opened; infer_instance
instance pay_storable (Y : Cargo F) (c : Dev nD) (x : Cel) (k : Fin 7) : BI.Storable (upEmb : UEmb _ 𝕄) (pay Y c x k) := by
  unfold pay; split <;> infer_instance

theorem NK_pos : 0 < NK := View.dmaCredit_pos _ (by decide)
theorem NR_pos : 0 < NR := View.dmaCredit_pos _ (by decide)
theorem worth_pos (r : Fin 4) : 0 < worth r := by unfold worth; split; exacts [NK_pos, NR_pos]
theorem amt_pos (x : Cel) : 0 < amt x := by
  unfold amt; split; exacts [Nat.one_pos, worth_pos _, worth_pos _, worth_pos _]

/-- The protocol: one round per semaphore. -/
def Rd (Y : Cargo F) : Rounds.Schedule (GSem nD τ sig) (Fin 7) 𝕄 where
  duties g r := if r = 0 then (celOf g.2).elim ∅ dut else ∅
  unitless _ := False
  amount g _ _ := (celOf g.2).elim 1 amt
  payload g _ d := (celOf g.2).elim iprop(emp) fun x => pay Y g.1.1 x d
  amount_pos g _ _ _ := by
    cases celOf g.2 with
    | none => exact Nat.one_pos
    | some x => exact amt_pos x

instance Rd_payload_storable (Y : Cargo F) (g : GSem nD τ sig) (r : ℕ) (d : Fin 7) :
    BI.Storable (upEmb : UEmb _ 𝕄) ((Rd Y).payload g r d) := by
  show BI.Storable upEmb ((celOf g.2).elim iprop(emp) fun x => pay Y g.1.1 x d)
  cases celOf g.2 <;> (dsimp only [Option.elim]; infer_instance)

theorem Rd_duties (Y : Cargo F) (c : Dev nD) (x : Cel) : (Rd Y).duties (cell c x) 0 = dut x := by
  show (if (0 : ℕ) = 0 then (celOf (semOf x)).elim ∅ dut else ∅) = _
  rw [if_pos rfl, celOf_semOf]; rfl
theorem Rd_later (Y : Cargo F) (g : GSem nD τ sig) : ∀ r, 1 ≤ r → (Rd Y).duties g r = ∅ :=
  fun r hr => if_neg (by omega)
theorem Rd_amount (Y : Cargo F) (c : Dev nD) (x : Cel) (d : Fin 7) : (Rd Y).amount (cell c x) 0 d = amt x := by
  show (celOf (semOf x)).elim 1 amt = _
  rw [celOf_semOf]; rfl
theorem Rd_payload (Y : Cargo F) (c : Dev nD) (x : Cel) (d : Fin 7) : (Rd Y).payload (cell c x) 0 d = pay Y c x d := by
  show (celOf (semOf x)).elim iprop(emp) (fun x => pay Y c x d) = _
  rw [celOf_semOf]; rfl
theorem Rd_expect (Y : Cargo F) (c : Dev nD) (x : Cel) : (Rd Y).expect (cell c x) 0 = (dut x).card * amt x := by
  unfold Rounds.Schedule.expect Rounds.Schedule.amountOf
  rw [Rd_duties, Finset.sum_congr rfl fun d _ => Rd_amount Y c x d, Finset.sum_const, smul_eq_mul]
theorem Rd_rest (Y : Cargo F) (c : Dev nD) (x : Cel) :
    bigSep ((Rd Y).duties (cell c x) 0 \ ∅) (fun d => (Rd Y).payload (cell c x) 0 d) = bigSep (dut x) (pay Y c x) := by
  rw [Finset.sdiff_empty, Rd_duties]
  exact bigSep_congr fun d _ => Rd_payload Y c x d

end Cert.KernelIdeal.Mesh

end
-- ==== Proof.KernelIdeal.Steps.lean ====
/-
  What a device owes, and one rule for each kind of step of the body: a signal, a wait, a copy on the
  device, a copy to another device.
-/
module

public import proofs.«01_k».proof.Proof.KernelIdeal.Schedule

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a device owes -/

abbrev Dues : Type := CellTallies nD τ sig Unit

/-- What steps `n, n + 1, …` of a loop still have to pay, when step `k` pays `f k`. -/
def dues (f : Fin 7 → Dues) (n : ℕ) : Dues := ∑ k ∈ Finset.univ.filter (fun k : Fin 7 => n ≤ k.val), f k

theorem dues_step (f : Fin 7 → Dues) (k : Fin 7) : dues f k.val = dues f (k.val + 1) + f k := by
  have h : Finset.univ.filter (fun k' : Fin 7 => k.val ≤ k'.val) = insert k (Finset.univ.filter fun k' : Fin 7 => k.val + 1 ≤ k'.val) := by
    ext k'
    simp only [Finset.mem_filter, Finset.mem_univ, true_and, Finset.mem_insert, Fin.ext_iff]
    omega
  unfold dues
  rw [h, Finset.sum_insert (by simp), add_comm]
theorem dues_end (f : Fin 7 → Dues) : dues f 7 = 0 := by
  unfold dues
  rw [Finset.filter_false_of_mem (fun k _ => by omega), Finset.sum_empty]
theorem dues_all (f : Fin 7 → Dues) : dues f 0 = ∑ k, f k := by
  unfold dues
  rw [Finset.filter_true_of_mem (fun k _ => Nat.zero_le _)]

/-- The signal the `k`-th step of the first loop pays, -/
def sigDue (c : Dev nD) (k : Fin 7) : Dues := tallyAt (cell (plus c k) bar) () 1
/-- and the landing the `k`-th send of row `r` pays. -/
def rcvDue (c : Dev nD) (r : Fin 4) (k : Fin 7) : Dues := tallyAt (cell (plus c k) (rcv r k)) () (worth r)
/-- The landings of keys and of values are paid in one loop. -/
def kvDue (c : Dev nD) (k : Fin 7) : Dues := rcvDue c 0 k + rcvDue c 1 k

/-- What device `c` owes after its barrier and at the start. -/
def O₁ (c : Dev nD) : Dues := dues (kvDue c) 0 + (dues (rcvDue c 2) 0 + dues (rcvDue c 3) 0)
def O₀ (c : Dev nD) : Dues := dues (sigDue c) 0 + O₁ c

/-! ## The order of the waits -/

def L (g : GSem nD τ sig) : Finset Unit := if g.1.2 = .tc then {()} else ∅
/-- A wait is made while only payments of a higher level are owed. -/
def level : Cel → ℕ
  | .inl _ => 1
  | .inr (.inr (.inl (r, _))) => ![2, 2, 3, 4] r
  | _ => 0
def lv (g : GSem nD τ sig) (_ : Unit) : ℕ := (celOf g.2).elim 0 level

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Cel) (u : Unit) : lv (cell c x) u = level x := by
  show (celOf (semOf x)).elim 0 level = _
  rw [celOf_semOf]; rfl

/-- Everything owed lies above level `n`. -/
def Above (n : ℕ) (O : Dues) : Prop := ∀ g u, 0 < O g u → u ∈ L g ∧ n < lv g u

theorem Above.zero (n : ℕ) : Above n 0 := fun g u h => absurd h (lt_irrefl _)
theorem Above.add {n : ℕ} {O O' : Dues} (h : Above n O) (h' : Above n O') : Above n (O + O') := fun g u hp => by
  rw [Pi.add_apply, Finsupp.add_apply] at hp
  rcases Nat.pos_of_ne_zero (n := O g u) |> fun f => (Nat.eq_zero_or_pos (O g u)) with h0 | h0
  · exact h' g u (by omega)
  · exact h g u h0
theorem Above.tally {n : ℕ} (c : Dev nD) (x : Cel) (N : ℕ) (h : n < level x) : Above n (tallyAt (cell c x) () N) := fun g u hp => by
  rw [tallyAt_apply] at hp
  split at hp
  · rename_i hg
    obtain ⟨rfl, rfl⟩ := hg
    exact ⟨by rw [L_tc]; exact Finset.mem_singleton_self _, by rw [lv_cell]; exact h⟩
  · exact absurd hp (lt_irrefl _)
theorem Above.dues {n : ℕ} {f : Fin 7 → Dues} (h : ∀ k, Above n (f k)) (i : ℕ) : Above n (dues f i) := by
  unfold Mesh.dues
  exact Finset.sum_induction _ (Above n) (fun _ _ => Above.add) (Above.zero n) fun k _ => h k

theorem Above.rcv {n : ℕ} (c : Dev nD) (r : Fin 4) (h : n < (![2, 2, 3, 4] : Fin 4 → ℕ) r) (i : ℕ) : Above n (Mesh.dues (rcvDue c r) i) :=
  Above.dues (fun k => Above.tally _ _ _ h) i
theorem Above.kv (c : Dev nD) (i : ℕ) : Above 1 (Mesh.dues (kvDue c) i) :=
  Above.dues (fun k => (Above.tally _ _ _ (show 1 < (![2, 2, 3, 4] : Fin 4 → ℕ) 0 by decide)).add (Above.tally _ _ _ (show 1 < (![2, 2, 3, 4] : Fin 4 → ℕ) 1 by decide))) i

/-- A wait on a semaphore at level at most `n` may be made while everything owed lies above `n`. -/
theorem mayWait (c : Dev nD) (sm : SemLoc sig) (O : Dues) (n : ℕ) (hO : Above n O) (h : lv ((c : Thread nD τ), sm) () ≤ n) :
    (levAts L lv : sProp 𝕄) ⊢ MayWait (c : Thread nD τ) sm () O :=
  MayOwe.of_cut n (fun p hp => by rw [Finset.mem_singleton.mp hp, L_tc]; exact Finset.mem_singleton_self _) (fun g u hp => (hO g u hp).1)
    (fun p hp => by rw [Finset.mem_singleton.mp hp]; exact h) (fun g u hp => (hO g u hp).2)

/-! ## The shared records -/

abbrev EP : Emb (UR sig nD τ) 𝕄 := embL
abbrev ER : Emb UB 𝕄 := embR

/-- Device `c` owes `O`, whatever waits it has made. -/
def owing (c : Dev nD) (O : Dues) : sProp 𝕄 := iprop(∃ W, owes (c : Thread nD τ) O W)

/-- Every semaphore's protocol is in force and at its first round, and the levels are as said. -/
def records (Y : Cargo F) (K : Dev nD × Cel → ℕ) : sProp 𝕄 :=
  iprop((bigSep Finset.univ fun a : Dev nD × Cel => cellInv ER (Rd Y) (K a) (cell a.1 a.2))
    ∗ (bigSep Finset.univ fun a : Dev nD × Cel => reached ER (cell a.1 a.2) 0) ∗ levAts L lv)

instance records_persistent (Y : Cargo F) (K : Dev nD × Cel → ℕ) : BI.Persistent (records Y K) := by unfold records; infer_instance

theorem records_inv (Y : Cargo F) (K : Dev nD × Cel → ℕ) (c : Dev nD) (x : Cel) :
    records Y K ⊢ cellInv ER (Rd Y) (K (c, x)) (cell c x) := by
  unfold records
  iintro ⟨H, -, -⟩
  iapply (show (bigSep Finset.univ fun a : Dev nD × Cel => (cellInv ER (Rd Y) (K a) (cell a.1 a.2) : sProp 𝕄)) ⊢ cellInv ER (Rd Y) (K (c, x)) (cell c x) from
    bigSep_elim (Finset.mem_univ (c, x)))
  iexact H
theorem records_reached (Y : Cargo F) (K : Dev nD × Cel → ℕ) (c : Dev nD) (x : Cel) : records Y K ⊢ reached ER (cell c x) 0 := by
  unfold records
  iintro ⟨-, H, -⟩
  iapply (show (bigSep Finset.univ fun a : Dev nD × Cel => (reached ER (cell a.1 a.2) 0 : sProp 𝕄)) ⊢ reached ER (cell c x) 0 from
    bigSep_elim (Finset.mem_univ (c, x)))
  iexact H
theorem records_lev (Y : Cargo F) (K : Dev nD × Cel → ℕ) : records Y K ⊢ levAts L lv := by
  unfold records
  iintro ⟨-, -, H⟩
  iexact H

abbrev tk (c : Dev nD) (x : Cel) (k : Fin 7) : sProp 𝕄 := dutyTok ER (cell c x) 0 k
abbrev pos (c : Dev nD) (x : Cel) : sProp 𝕄 := atPos ER (cell c x) 0 ∅ 0
abbrev crd (c : Dev nD) (x : Cel) (n : ℕ) : sProp 𝕄 := cred (tallyAt (cell c x) () n)
abbrev done (c : Dev nD) (x : Cel) : sProp 𝕄 := semVal (cell c x) 0

/-! ## Holding a memref, at any share -/

theorem part_elim (c : Dev nD) {s : Shape} {e : EltTy} (b : Memref sig .tc .vmem s e) (q : PosShare TreeShare) (X : s.Idx → Elt F e) (Q : sProp 𝕄)
    (h : ∀ f : Buf (Elt F) (b.view.loc (c : Thread nD τ)), b.view.read (Elt F) f = X → (b.view.loc (c : Thread nD τ) ↦[b.view.set]{q} f) ⊢ Q) :
    part (F := F) c b q X ⊢ Q := by
  show iprop(∃ f : Buf (Elt F) (b.view.loc (c : Thread nD τ)), ⌜b.view.read (Elt F) f = X⌝ ∗ (b.view.loc (c : Thread nD τ) ↦[b.view.set]{q} f)) ⊢ Q
  iintro ⟨%f, %hf, H⟩
  iapply (h f hf)
  iexact H
theorem part_intro (c : Dev nD) {s : Shape} {e : EltTy} (b : Memref sig .tc .vmem s e) (q : PosShare TreeShare)
    (f : Buf (Elt F) (b.view.loc (c : Thread nD τ))) (X : s.Idx → Elt F e) (h : b.view.read (Elt F) f = X) :
    (b.view.loc (c : Thread nD τ) ↦[b.view.set]{q} f) ⊢ part (F := F) c b q X := by
  subst h; exact owns_intro (c : Thread nD τ) b q f

/-- Elements read at a share on one device and elements held outright on another, at contents of their buffers. -/
theorem both_elim (c n : Dev nD) {s : Shape} {e : EltTy} (src dst : Memref sig .tc .vmem s e) (q : PosShare TreeShare) (X D : s.Idx → Elt F e) :
    iprop(part c src q X ∗ own n dst D) ⊢ iprop(∃ (fs : Buf (Elt F) (src.view.loc (c : Thread nD τ))) (fd : Buf (Elt F) (dst.view.loc (n : Thread nD τ))),
      ⌜src.view.read (Elt F) fs = X⌝ ∗ (src.view.loc (c : Thread nD τ) ↦[src.view.set]{q} fs) ∗ (dst.view.loc (n : Thread nD τ) ↦[dst.view.set]{fullShare} fd)) := by
  refine BI.wand_elim (part_elim c src q X _ fun fs hfs => BI.wand_intro ?_)
  refine (sep_mono_right (part_elim n dst fullShare D
    iprop(∃ fd : Buf (Elt F) (dst.view.loc (n : Thread nD τ)), (dst.view.loc (n : Thread nD τ) ↦[dst.view.set]{fullShare} fd)) fun fd _ => ?_)).trans ?_
  · iintro H; iexists fd; iexact H
  show iprop((_ : sProp 𝕄) ∗ _) ⊢ _
  iintro ⟨Hs, ⟨%fd, Hd⟩⟩
  iexists fs; iexists fd
  isplitr; · ipureintro; exact hfs
  isplitl [Hs] <;> iassumption

/-! ## The steps -/

section Steps

variable (Y : Cargo F) (K : Dev nD × Cel → ℕ)

/-- The `k`-th signal opens this device's four landing slots to the device it names. -/
theorem signal_step (c : Dev nD) (k : Fin 7) (O : Dues) :
    iprop(records Y K ∗ owing c (O + sigDue c k) ∗ tk (plus c k) bar k ∗ opened (plus c k) c)
      ⊢ run c (signal c k) fun _ => owing c O := by
  unfold signal semSignalWord owing
  rw [devS_eq]
  iintro ⟨#HR, ⟨%W, HO⟩, Ht, Hp⟩
  iapply (Rounds.wp_signal 𝒱₀ ER (Rd Y) (c : Thread nD τ) none (dst := (plus c k : Thread nD τ)) (κ := K (plus c k, bar)) (r := 0)
      (d := k) (by rw [show ((plus c k : Thread nD τ), SemLoc.reg barS) = cell (plus c k) bar from rfl, Rd_duties]; exact Finset.mem_univ _)
      ((Rd_amount Y (plus c k) bar k).trans (by decide)) () O rfl) $$ [HO Ht Hp]
  · isplitr; · iapply (records_inv Y K (plus c k) bar); iexact HR
    isplitl [HO]; · iexact HO
    isplitl [Ht]; · iexact Ht
    isplitl [Hp]
    · rw [show (Rd Y).payload ((plus c k : Thread nD τ), SemLoc.reg barS) 0 k = opened (plus c k) c from
        (Rd_payload Y (plus c k) bar k).trans (congrArg (opened (plus c k)) (minus_plus c k))]
      iexact Hp
    iapply (records_reached Y K (plus c k) bar); iexact HR
  iintro HO
  rw [wp_ret]; imodintro
  iexists W; iexact HO

/-- A wait for the whole of a semaphore's round: what was handed over, and the semaphore back at zero. -/
theorem wait_gen (c : Dev nD) (x : Cel) (w : TpuEff nD τ sig (Elt F) Λ₀ .tc PUnit) (N n : ℕ)
    (hw : ∀ Q : PUnit → sProp 𝕄, wpE (defs₀ (F := F)) 𝒱₀ (c : Thread nD τ) none Set.univ w Q = waitSpec (c : Thread nD τ) Set.univ (semOf x) N Q)
    (hN : (dut x).card * amt x = N) (O : Dues) (hO : Above n O) (hx : level x ≤ n) :
    iprop(records Y K ∗ owing c O ∗ crd c x N ∗ pos c x)
      ⊢ run c (Prog.lift w) fun _ => iprop(owing c O ∗ done c x ∗ bigSep (dut x) (pay Y c x)) := by
  unfold owing
  iintro ⟨#HR, ⟨%W, HO⟩, Hc, Hp⟩
  iapply (Rounds.wp_wait_rest_token 𝒱₀ ER (Rd Y) (c : Thread nD τ) none (κ := K (c, x)) hw (Set.mem_univ _) () (O := O) (W := W) (R := 0) (m := 0) (T := ∅)
      (by rw [Nat.zero_add, Rd_expect, hN])) $$ [HO Hc Hp]
  · isplitr; · iapply (records_inv Y K c x); iexact HR
    isplitl [Hc]; · iexact Hc
    isplitl [HO]; · iexact HO
    isplitr
    · iapply (mayWait c (semOf x) O n hO ((lv_cell c x ()).trans_le hx))
      iapply (records_lev Y K); iexact HR
    iexact Hp
  iintro ⟨HO, Hp, -, Hpay⟩
  ihave Hpay := (Entails.of_eq (Rd_rest Y c x)) $$ Hpay
  imod (Rounds.cell_close ER (Rd Y) (g := cell c x) (Set.mem_univ (K (c, x))) (fun h => h) (R := 0 + 1) (fun r hr => Rd_later Y _ r hr)) $$ [Hp] with Hz
  · isplitr; · iapply (records_inv Y K c x); iexact HR
    iexact Hp
  rw [wp_ret]; imodintro
  isplitl [HO]; · iexists _; iexact HO
  isplitl [Hz]; · iexact Hz
  iexact Hpay

/-- The barrier: every other device's landing slots for this one. -/
theorem bar_step (c : Dev nD) (O : Dues) (hO : Above 1 O) :
    iprop(records Y K ∗ owing c O ∗ crd c bar 7 ∗ pos c bar)
      ⊢ run c (waitBar (F := F)) fun _ => iprop(owing c O ∗ done c bar ∗ bigSep Finset.univ fun k => opened c (minus c k)) :=
  wait_gen Y K c bar _ 7 1 (wpE_semWait_eq 𝒱₀ (c : Thread nD τ) none Set.univ) rfl O hO le_rfl

/-- A wait on one of the transfer semaphores. -/
theorem wait_step (c : Dev nD) (x : (Fin 4 × Fin 7) ⊕ (Fin 4 × Fin 7) ⊕ Fin 4) (sm : DmaSem sig) (hsm : semOf (.inr x) = .dma sm) {s : Shape}
    (src dst : Memref sig .tc .vmem s .bf16) (hs : src.view.WordExact) (hd : dst.view.WordExact) (hN : amt (.inr x) = dst.view.dmaCredit)
    (n : ℕ) (O : Dues) (hO : Above n O) (hx : level (.inr x) ≤ n) :
    iprop(records Y K ∗ owing c O ∗ crd c (.inr x) (amt (.inr x)) ∗ pos c (.inr x))
      ⊢ run c (waitAt sm src dst hs hd) fun _ => iprop(owing c O ∗ done c (.inr x) ∗ pay Y c (.inr x) 0) := by
  refine (wait_gen Y K c (.inr x) (.waitDma2 sm src dst hs hd) (amt (.inr x)) n (fun Q => ?_) (Nat.one_mul _) O hO hx).trans (wp_mono _ _ _ fun _ => ?_)
  · rw [hsm, hN]; exact wpE_waitDma2_eq 𝒱₀ (c : Thread nD τ) none Set.univ Q
  · show iprop(owing c O ∗ done c (.inr x) ∗ bigSep {0} (pay Y c (.inr x))) ⊢ _
    rw [bigSep_singleton]

/-- A copy on the device itself. -/
theorem copy_step (c : Dev nD) (x : (Fin 4 × Fin 7) ⊕ (Fin 4 × Fin 7) ⊕ Fin 4) (sm : DmaSem sig) (hsm : semOf (.inr x) = .dma sm) {s : Shape} {e : EltTy}
    (src dst : Memref sig .tc .vmem s e) {hs : src.view.WordExact} {hd : dst.view.WordExact}
    {hsem : DmaTarget.Typed (nD := nD) (τ := τ) (p := .tc) .vmem (.dma sm) (.here dst)} (hN : amt (.inr x) = dst.view.amount (.dma sm))
    (q : PosShare TreeShare) (X : s.Idx → Elt F e) (hpay : iprop(own c dst X ∗ part c src q X) ⊢ pay Y c (.inr x) 0) :
    iprop(records Y K ∗ part c src q X ∗ free c dst ∗ tk c (.inr x) 0)
      ⊢ run c (Prog.lift (.enqueueDma src (.here dst) (.dma sm) hs hd hsem)) fun _ => crd c (.inr x) (amt (.inr x)) := by
  have hcell : ((c : Thread nD τ), SemLoc.dma sm) = cell c (.inr x) := by rw [← hsm]
  iintro ⟨#HR, Hs, ⟨%D, Hd⟩, Ht⟩
  ihave Hboth := (both_elim c c src dst q X D) $$ [Hs Hd]
  · isplitl [Hs] <;> iassumption
  icases Hboth with ⟨%fs, %fd, %hfs, Hs, Hd⟩
  iapply (Rounds.wp_copy_pointsTo 𝒱₀ ER (Rd Y) (c : Thread nD τ) none (κ := K (c, .inr x)) (r := 0) (d := 0) (src := src) (dst := dst) (sem := .dma sm) (q := q) (fs := fs) (fd := fd)
      (by rw [hcell, Rd_duties]; exact Finset.mem_singleton_self _) () (amt (.inr x)) hN.symm (by rw [hcell, Rd_amount])
      (by
        rw [hcell, Rd_payload]
        refine .trans (BIClass.sep_mono (own_intro c dst _ X ?_) (part_intro c src q fs X hfs)) hpay
        rw [View.read_write_univ, hfs])) $$ [Hs Hd Ht]
  · isplitr; · rw [hcell]; iapply (records_inv Y K c (.inr x)); iexact HR
    isplitl [Hs]; · iexact Hs
    isplitl [Hd]; · iexact Hd
    isplitl [Ht]; · rw [hcell]; iexact Ht
    rw [hcell]; iapply (records_reached Y K c (.inr x)); iexact HR
  rw [hcell]
  iintro Hc
  rw [wp_ret]; imodintro
  iexact Hc

/-- A copy to another device. -/
theorem send_step (c n : Dev nD) (x y : (Fin 4 × Fin 7) ⊕ (Fin 4 × Fin 7) ⊕ Fin 4) (sS sR : DmaSem sig) (hS : semOf (.inr x) = .dma sS) (hR : semOf (.inr y) = .dma sR)
    {s : Shape} {e : EltTy} (src dst : Memref sig .tc .vmem s e) {hs : src.view.WordExact} {hd : dst.view.WordExact}
    {hsc : (dst : Memref sig (Dev.tc n : Thread nD τ).2.kind .vmem s e).view.ref.isScScratch = false}
    {hsem : DmaTarget.Typed (τ := τ) (p := .tc) .vmem (.dma sR) (.remote (Dev.tc n : Thread nD τ) dst (.dma sS) hsc)}
    (hN : amt (.inr y) = dst.view.amount (.dma sR)) (hxy : amt (.inr x) = amt (.inr y))
    (q : PosShare TreeShare) (X : s.Idx → Elt F e) (hp₁ : part c src q X ⊢ pay Y c (.inr x) 0) (hp₂ : own n dst X ⊢ pay Y n (.inr y) 0) (O : Dues) :
    iprop(records Y K ∗ part c src q X ∗ free n dst ∗ owing c (O + tallyAt (cell n (.inr y)) () (amt (.inr y))) ∗ tk c (.inr x) 0 ∗ tk n (.inr y) 0)
      ⊢ run c (Prog.lift (.enqueueDma src (.remote (Dev.tc n : Thread nD τ) dst (.dma sS) hsc) (.dma sR) hs hd hsem))
          fun _ => iprop(crd c (.inr x) (amt (.inr x)) ∗ owing c O) := by
  have hcS : ((c : Thread nD τ), SemLoc.dma sS) = cell c (.inr x) := by rw [← hS]
  have hcR : ((n : Thread nD τ), SemLoc.dma sR) = cell n (.inr y) := by rw [← hR]
  unfold owing
  iintro ⟨#HR, Hs, ⟨%D, Hd⟩, ⟨%W, HO⟩, Ht₁, Ht₂⟩
  ihave Hboth := (both_elim c n src dst q X D) $$ [Hs Hd]
  · isplitl [Hs] <;> iassumption
  icases Hboth with ⟨%fs, %fd, %hfs, Hs, Hd⟩
  iapply (Rounds.wp_send_pointsTo 𝒱₀ ER (Rd Y) (c : Thread nD τ) none (c' := (Dev.tc n : Thread nD τ)) (κ₁ := K (c, .inr x)) (κ₂ := K (n, .inr y)) (r₁ := 0) (r₂ := 0) (d₁ := 0) (d₂ := 0)
      (src := src) (dst := dst) (sS := .dma sS) (sem := .dma sR) (q := q) (fs := fs) (fd := fd)
      (by rw [hcS, Rd_duties]; exact Finset.mem_singleton_self _) (by rw [hcR, Rd_duties]; exact Finset.mem_singleton_self _) () () (amt (.inr y)) hN.symm
      (by rw [hcS, Rd_amount, hxy]) (by rw [hcR, Rd_amount]) O (by rw [hcR]) (W := W)
      (by rw [hcS, Rd_payload]; exact (part_intro c src q fs X hfs).trans hp₁)
      (by
        rw [hcR, Rd_payload]
        refine .trans (own_intro n dst _ X ?_) hp₂
        rw [View.read_write_univ, hfs])) $$ [Hs Hd HO Ht₁ Ht₂]
  · isplitr; · rw [hcS]; iapply (records_inv Y K c (.inr x)); iexact HR
    isplitr; · rw [hcR]; iapply (records_inv Y K n (.inr y)); iexact HR
    isplitl [Hs]; · iexact Hs
    isplitl [Hd]; · iexact Hd
    isplitl [HO]; · iexact HO
    isplitl [Ht₁]; · rw [hcS]; iexact Ht₁
    isplitr; · rw [hcS]; iapply (records_reached Y K c (.inr x)); iexact HR
    isplitl [Ht₂]; · rw [hcR]; iexact Ht₂
    rw [hcR]; iapply (records_reached Y K n (.inr y)); iexact HR
  rw [hcS, hxy]
  iintro ⟨Hc, HO⟩
  rw [wp_ret]; imodintro
  isplitl [Hc]; · iexact Hc
  iexists W; iexact HO

end Steps

/-! ## Sequences and loops -/

/-- One program after another. -/
theorem run_seq {α β : Type} (c : Dev nD) {P : sProp 𝕄} {p : Prog (TpuEff nD τ sig (Elt F) Λ₀ .tc) α} {k : α → Prog (TpuEff nD τ sig (Elt F) Λ₀ .tc) β}
    (Q : α → sProp 𝕄) {Z : β → sProp 𝕄} (h : P ⊢ run c p Q) (h' : ∀ a, Q a ⊢ run c (k a) Z) : P ⊢ run c (p >>= k) Z :=
  (h.trans (wp_mono _ _ _ h')).trans (Entails.of_eq (wp_bind _ _ _ p k Z).symm)

/-- A program whose rule is known, then the rest. -/
theorem andThen {α β : Type} (c : Dev nD) {P : sProp 𝕄} {p : Prog (TpuEff nD τ sig (Elt F) Λ₀ .tc) α} {k : α → Prog (TpuEff nD τ sig (Elt F) Λ₀ .tc) β}
    {Q : α → sProp 𝕄} {Z : β → sProp 𝕄} (h : P ⊢ run c p Q) : iprop(P ∗ (∀ a, Q a -∗ run c (k a) Z)) ⊢ run c (p >>= k) Z :=
  ((sep_mono_left h).trans (wp_wand_r _ _ _)).trans (Entails.of_eq (wp_bind _ _ _ p k Z).symm)
/-- A program whose rule is known, at the end. -/
theorem lastly {α : Type} (c : Dev nD) {P : sProp 𝕄} {p : Prog (TpuEff nD τ sig (Elt F) Λ₀ .tc) α} {Q Z : α → sProp 𝕄} (h : P ⊢ run c p Q) :
    iprop(P ∗ (∀ a, Q a -∗ Z a)) ⊢ run c p Z :=
  (sep_mono_left h).trans (wp_wand_r _ _ _)

/-- A program that leaves the rest alone. -/
theorem run_frame {α : Type} (c : Dev nD) {P R : sProp 𝕄} {p : Prog (TpuEff nD τ sig (Elt F) Λ₀ .tc) α} {Q : α → sProp 𝕄} (h : P ⊢ run c p Q) :
    iprop(P ∗ R) ⊢ run c p fun a => iprop(Q a ∗ R) :=
  (sep_mono_left h).trans (wp_frame_r _ _ _)

/-- A loop of seven: what step `k` starts from besides the running state `I k`, it turns into `Post k`. -/
theorem loop7 (c : Dev nD) (R : sProp 𝕄) [BI.Persistent R] (I : ℕ → sProp 𝕄) (Pre Post : Fin 7 → sProp 𝕄) (f : Fin 7 → Pr F PUnit)
    (h : ∀ k : Fin 7, iprop(R ∗ I k.val ∗ Pre k) ⊢ run c (f k) fun _ => iprop(I (k.val + 1) ∗ Post k)) :
    iprop(R ∗ I 0 ∗ bigSep Finset.univ Pre) ⊢ run c (for7 f) fun _ => iprop(I 7 ∗ bigSep Finset.univ Post) := by
  have b7 (Φ : Fin 7 → sProp 𝕄) : bigSep Finset.univ Φ = iprop(Φ 0 ∗ Φ 1 ∗ Φ 2 ∗ Φ 3 ∗ Φ 4 ∗ Φ 5 ∗ Φ 6) :=
    bigSep_univ_eq_bigSepL [0, 1, 2, 3, 4, 5, 6] (by decide) (by decide) Φ
  have step (k : Fin 7) (P Q : sProp 𝕄) : iprop(R ∗ I k.val ∗ P ∗ Pre k ∗ Q) ⊢ run c (f k) fun _ => iprop(R ∗ I (k.val + 1) ∗ (P ∗ Post k) ∗ Q) := by
    iintro ⟨#HR, HI, HP, Hk, HQ⟩
    iapply (wp_wand_r)
    isplitl [HI Hk]
    · iapply (h k)
      isplitr; · iexact HR
      isplitl [HI] <;> iassumption
    iintro %v ⟨HI, Hk⟩
    isplitr; · iexact HR
    isplitl [HI]; · iexact HI
    isplitr [HQ]; · isplitl [HP] <;> iassumption
    iexact HQ
  rw [b7, b7]
  unfold for7
  refine .trans ?_ (run_seq c _ (step 0 iprop(emp) iprop(Pre 1 ∗ Pre 2 ∗ Pre 3 ∗ Pre 4 ∗ Pre 5 ∗ Pre 6)) fun _ => ?_)
  · iintro ⟨HR, HI, H⟩
    isplitl [HR]; · iexact HR
    isplitl [HI]; · iapply (show I 0 ⊢ I (0 : Fin 7).val from .rfl); iexact HI
    isplitr; · iempintro
    iexact H
  refine run_seq c _ (step 1 _ iprop(Pre 2 ∗ Pre 3 ∗ Pre 4 ∗ Pre 5 ∗ Pre 6)) fun _ => ?_
  refine run_seq c _ (step 2 _ iprop(Pre 3 ∗ Pre 4 ∗ Pre 5 ∗ Pre 6)) fun _ => ?_
  refine run_seq c _ (step 3 _ iprop(Pre 4 ∗ Pre 5 ∗ Pre 6)) fun _ => ?_
  refine run_seq c _ (step 4 _ iprop(Pre 5 ∗ Pre 6)) fun _ => ?_
  refine run_seq c _ (step 5 _ iprop(Pre 6)) fun _ => ?_
  iintro ⟨#HR, HI, HP, Hk⟩
  iapply (wp_wand_r)
  isplitl [HI Hk]
  · iapply (h 6)
    isplitr; · iexact HR
    isplitl [HI]; · iapply (show I ((5 : Fin 7).val + 1) ⊢ I (6 : Fin 7).val from .rfl); iexact HI
    iexact Hk
  iintro %v ⟨HI, H6⟩
  icases HP with ⟨⟨⟨⟨⟨⟨-, H0⟩, H1⟩, H2⟩, H3⟩, H4⟩, H5⟩
  isplitl [HI]; · iapply (show I ((6 : Fin 7).val + 1) ⊢ I 7 from .rfl); iexact HI
  isplitl [H0]; · iexact H0
  isplitl [H1]; · iexact H1
  isplitl [H2]; · iexact H2
  isplitl [H3]; · iexact H3
  isplitl [H4]; · iexact H4
  isplitl [H5] <;> iassumption

/-- A loop of eight whose steps share `R`. -/
theorem loop8 (c : Dev nD) (R : sProp 𝕄) (Pre Post : Fin 8 → sProp 𝕄) (f : Fin 8 → Pr F PUnit)
    (h : ∀ k : Fin 8, iprop(R ∗ Pre k) ⊢ run c (f k) fun _ => iprop(R ∗ Post k)) :
    iprop(R ∗ bigSep Finset.univ Pre) ⊢ run c (for8 f) fun _ => iprop(R ∗ bigSep Finset.univ Post) := by
  have b8 (Φ : Fin 8 → sProp 𝕄) : bigSep Finset.univ Φ = iprop(Φ 0 ∗ Φ 1 ∗ Φ 2 ∗ Φ 3 ∗ Φ 4 ∗ Φ 5 ∗ Φ 6 ∗ Φ 7) :=
    bigSep_univ_eq_bigSepL [0, 1, 2, 3, 4, 5, 6, 7] (by decide) (by decide) Φ
  have step (k : Fin 8) (P Q : sProp 𝕄) : iprop(R ∗ P ∗ Pre k ∗ Q) ⊢ run c (f k) fun _ => iprop(R ∗ (P ∗ Post k) ∗ Q) := by
    iintro ⟨HR, HP, Hk, HQ⟩
    iapply (wp_wand_r)
    isplitl [HR Hk]
    · iapply (h k)
      isplitl [HR] <;> iassumption
    iintro %v ⟨HR, Hk⟩
    isplitl [HR]; · iexact HR
    isplitr [HQ]; · isplitl [HP] <;> iassumption
    iexact HQ
  rw [b8, b8]
  unfold for8
  refine .trans ?_ (run_seq c _ (step 0 iprop(emp) iprop(Pre 1 ∗ Pre 2 ∗ Pre 3 ∗ Pre 4 ∗ Pre 5 ∗ Pre 6 ∗ Pre 7)) fun _ => ?_)
  · iintro ⟨HR, H⟩
    isplitl [HR]; · iexact HR
    isplitr; · iempintro
    iexact H
  refine run_seq c _ (step 1 _ iprop(Pre 2 ∗ Pre 3 ∗ Pre 4 ∗ Pre 5 ∗ Pre 6 ∗ Pre 7)) fun _ => ?_
  refine run_seq c _ (step 2 _ iprop(Pre 3 ∗ Pre 4 ∗ Pre 5 ∗ Pre 6 ∗ Pre 7)) fun _ => ?_
  refine run_seq c _ (step 3 _ iprop(Pre 4 ∗ Pre 5 ∗ Pre 6 ∗ Pre 7)) fun _ => ?_
  refine run_seq c _ (step 4 _ iprop(Pre 5 ∗ Pre 6 ∗ Pre 7)) fun _ => ?_
  refine run_seq c _ (step 5 _ iprop(Pre 6 ∗ Pre 7)) fun _ => ?_
  refine run_seq c _ (step 6 _ iprop(Pre 7)) fun _ => ?_
  iintro ⟨HR, HP, Hk⟩
  iapply (wp_wand_r)
  isplitl [HR Hk]
  · iapply (h 7)
    isplitl [HR] <;> iassumption
  iintro %v ⟨HR, H7⟩
  isplitl [HR]; · iexact HR
  icases HP with ⟨⟨⟨⟨⟨⟨⟨-, H0⟩, H1⟩, H2⟩, H3⟩, H4⟩, H5⟩, H6⟩
  isplitl [H0]; · iexact H0
  isplitl [H1]; · iexact H1
  isplitl [H2]; · iexact H2
  isplitl [H3]; · iexact H3
  isplitl [H4]; · iexact H4
  isplitl [H5]; · iexact H5
  isplitl [H6] <;> iassumption

end Cert.KernelIdeal.Mesh

end
-- ==== Proof.KernelIdeal.Moves.lean ====
/-
  The steps of this kernel's body, each with what it takes and what it leaves.
-/
module

public import proofs.«01_k».proof.Proof.KernelIdeal.Steps

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The values that travel -/

/-- What the kernel reads: each device's inputs. -/
structure Inputs (F : FTy → Type) [FloatOps F] where
  x : Dev nD → Vec F S2x128x512 .f32
  wq : Dev nD → Vec F S512x256 .f32
  k : Dev nD → Vec F S2x128x32x64 .f32
  v : Dev nD → Vec F S2x128x32x64 .f32
  wo : Dev nD → Vec F S256x512 .f32

/-- Device `j`'s four heads of keys or values, rounded. -/
def heads (X : Vec F S2x128x32x64 .f32) (j : Dev nD) : S2x128x4x64.Idx → Elt F .bf16 := fun i =>
  k0_pay1 (fun a => X ((rectH j).emb a)) (Shape.reshapeEquiv squeezes_S1x2x128x4x64_S2x128x4x64.numel_eq i)

variable (J : Inputs F)

/-- The keys and the values device `c` gathers, -/
def keys (c : Dev nD) : Vec F S8x2x128x4x64 .bf16 := gatherK fun s => heads (J.k s) c
def vals (c : Dev nD) : Vec F S8x2x128x4x64 .bf16 := gatherK fun s => heads (J.v s) c
/-- block `j` of its partial output, -/
def partials (c : Dev nD) (j : Fin 8) : FVec F S1x256x64 .bf16 := blocks (k0_pay20 (J.x c) (J.wq c)) (keys J c) (vals J c) (J.wo c) j
def mine (c : Dev nD) (j : Fin 8) : S256x64.Idx → Elt F .bf16 := fun i => partials J c j (Shape.reshapeEquiv squeezes_S1x256x64_S256x64.numel_eq i)
/-- the block it sums, -/
def summed (c : Dev nD) : S256x64.Idx → Elt F .bf16 := k0_pay49 (gatherR fun s => mine J s c)
/-- and the output: every device's block, side by side. -/
def outcome : Vec F S2x128x512 .f32 := joined fun j a => gatherR (summed J) ((rectR j).emb a)

/-- What travels. -/
def cargo : Cargo F where
  K c j := heads (J.k c) j
  V c j := heads (J.v c) j
  M c j := mine J c j
  A c := summed J c

/-! ## Loads and stores -/

theorem castHeads_step (c : Dev nD) (src : Memref sig .tc .vmem S2x128x32x64 .f32) (b : KBuf) (hb : b.IsWhole) (X : Vec F S2x128x32x64 .f32) (j : Fin 8) :
    iprop(own c src X ∗ free c (sK b j)) ⊢ run c (castHeads src b hb j) fun _ => iprop(own c src X ∗ own c (sK b j) (heads X j)) := by
  unfold castHeads
  iintro ⟨Hs, ⟨%D, Hd⟩⟩
  iapply (andThen c (load_rect c src (rectH j) X _))
  isplitl [Hs]; · iexact Hs
  iintro %w ⟨%hw, Hs⟩
  subst hw
  iapply (andThen c (load_piece (s := S8x2x128x4x64) offK S1x2x128x4x64.size inbK squeezes_S1x2x128x4x64_S2x128x4x64 c b j D _))
  isplitl [Hd]; · iexact Hd
  iintro %w ⟨-, Hd⟩
  iapply (lastly c (store_piece (s := S8x2x128x4x64) offK S1x2x128x4x64.size inbK squeezes_S1x2x128x4x64_S2x128x4x64 c b j D _ _ _))
  isplitl [Hd]; · iexact Hd
  iintro %w Hd
  isplitl [Hs]; · iexact Hs
  iexact Hd

theorem putBlock_step (c : Dev nD) (b : RBuf) (hb : b.IsWhole) (j : Fin 8) (w : FVec F S1x256x64 .bf16) :
    free (F := F) c (sR b j) ⊢ run c (putBlock b hb j w) fun _ => own c (sR b j) fun i => w (Shape.reshapeEquiv squeezes_S1x256x64_S256x64.numel_eq i) := by
  unfold putBlock
  iintro ⟨%D, Hd⟩
  iapply (andThen c (load_piece (s := S8x256x64) offR S1x256x64.size inbR squeezes_S1x256x64_S256x64 c b j D _))
  isplitl [Hd]; · iexact Hd
  iintro %v ⟨-, Hd⟩
  iapply (lastly c (store_piece (s := S8x256x64) offR S1x256x64.size inbR squeezes_S1x256x64_S256x64 c b j D _ _ _))
  isplitl [Hd]; · iexact Hd
  iintro %v Hd
  iexact Hd

theorem getBlock_step (c : Dev nD) (b : RBuf) (j : Fin 8) (X : S8x256x64.Idx → Elt F .bf16) :
    own (F := F) c b X ⊢ run c (getBlock b j) fun v => iprop(⌜v = fun a => X ((rectR j).emb a)⌝ ∗ own c b X) :=
  load_rect c b (rectR j) X _

/-! ## Transfers -/

section Transfers

variable (Y : Cargo F) (K : Dev nD × Cel → ℕ)

theorem hereK_step (c : Dev nD) (l : Fin 4) (hl : l.val < 2) (src dst : KBuf) (hs : src.IsWhole) (hd : dst.IsWhole) (X : S2x128x4x64.Idx → Elt F .bf16)
    (hp : iprop(own c (sK dst c) X ∗ free c (sK src c)) ⊢ pay Y c (loc l) 0) :
    iprop(records Y K ∗ own c (sK src c) X ∗ free c (sK dst c) ∗ tk c (loc l) 0)
      ⊢ run c (hereK src dst hs hd (semLoc cc0_scratch10 l) c) fun _ => crd c (loc l) (worth l) := by
  rw [← ownK_eq, ← ownK_eq] at hp ⊢
  exact copy_step Y K c (.inr (.inr l)) (semLoc cc0_scratch10 l) rfl (ownK src c) (ownK dst c) (if_pos hl) fullShare X
    ((sep_mono_right (by iintro H; iexists X; iexact H)).trans hp)

theorem hereR_step (c : Dev nD) (src dst : RBuf) (hs : src.IsWhole) (hd : dst.IsWhole) (X : S256x64.Idx → Elt F .bf16)
    (hp : iprop(own c (sR dst c) X ∗ free c (sR src c)) ⊢ pay Y c (loc 2) 0) :
    iprop(records Y K ∗ own c (sR src c) X ∗ free c (sR dst c) ∗ tk c (loc 2) 0)
      ⊢ run c (hereR src dst hs hd (semLoc cc0_scratch10 2) c) fun _ => crd c (loc 2) (worth 2) := by
  rw [← ownR_eq, ← ownR_eq] at hp ⊢
  exact copy_step Y K c (.inr (.inr 2)) (semLoc cc0_scratch10 2) rfl (ownR src c) (ownR dst c) rfl fullShare X
    ((sep_mono_right (by iintro H; iexists X; iexact H)).trans hp)

theorem hereA_step (c : Dev nD) (src : Memref sig .tc .vmem S256x64 .bf16) (dst : RBuf) (hs : src.IsWhole) (hd : dst.IsWhole) (X : S256x64.Idx → Elt F .bf16)
    (hp : iprop(own c (sR dst c) X ∗ part c src rest X) ⊢ pay Y c (loc 3) 0) :
    iprop(records Y K ∗ part c src rest X ∗ free c (sR dst c) ∗ tk c (loc 3) 0)
      ⊢ run c (hereA src dst hs hd (semLoc cc0_scratch10 3) c) fun _ => crd c (loc 3) (worth 3) := by
  rw [← ownR_eq] at hp ⊢
  exact copy_step Y K c (.inr (.inr 3)) (semLoc cc0_scratch10 3) rfl src (ownR dst c) rfl rest X hp

theorem sendK_step (c n : Dev nD) (k : Fin 7) (hn : n = plus c k) (r : Fin 4) (hr : r.val < 2) (src dst : KBuf) (hs : src.IsWhole) (hd : dst.IsWhole)
    (X : S2x128x4x64.Idx → Elt F .bf16) (hp₁ : free c (sK src (plus c k)) ⊢ lent Y c (plus c k) (tok k) r)
    (hp₂ : own (plus c k) (sK dst c) X ⊢ landed Y (plus c k) c r) (O : Dues) :
    iprop(records Y K ∗ own c (sK src (plus c k)) X ∗ free (plus c k) (sK dst c) ∗ owing c (O + rcvDue c r k) ∗ tk c (snd r k) 0 ∗ tk (plus c k) (rcv r k) 0)
      ⊢ run c (sendK src dst hs hd (semAt cc0_scratch8 r k) (semAt cc0_scratch9 r k) c n k) fun _ => iprop(crd c (snd r k) (worth r) ∗ owing c O) := by
  subst hn
  rw [← toK_eq] at hp₁ ⊢
  rw [← ownK_eq] at hp₂ ⊢
  exact send_step Y K c (plus c k) (.inl (r, k)) (.inr (.inl (r, k))) (semAt cc0_scratch8 r k) (semAt cc0_scratch9 r k) rfl rfl (toK src c k) (ownK dst c)
    (if_pos hr) rfl fullShare X (.trans (by iintro H; iexists X; iexact H) hp₁)
    (by show _ ⊢ landed Y (plus c k) (minus (plus c k) k) r; rw [minus_plus]; exact hp₂) O

theorem sendR_step (c n : Dev nD) (k : Fin 7) (hn : n = plus c k) (src dst : RBuf) (hs : src.IsWhole) (hd : dst.IsWhole)
    (X : S256x64.Idx → Elt F .bf16) (hp₁ : free c (sR src (plus c k)) ⊢ lent Y c (plus c k) (tok k) 2)
    (hp₂ : own (plus c k) (sR dst c) X ⊢ landed Y (plus c k) c 2) (O : Dues) :
    iprop(records Y K ∗ own c (sR src (plus c k)) X ∗ free (plus c k) (sR dst c) ∗ owing c (O + rcvDue c 2 k) ∗ tk c (snd 2 k) 0 ∗ tk (plus c k) (rcv 2 k) 0)
      ⊢ run c (sendR src dst hs hd (semAt cc0_scratch8 2 k) (semAt cc0_scratch9 2 k) c n k) fun _ => iprop(crd c (snd 2 k) (worth 2) ∗ owing c O) := by
  subst hn
  rw [← toR_eq] at hp₁ ⊢
  rw [← ownR_eq] at hp₂ ⊢
  exact send_step Y K c (plus c k) (.inl (2, k)) (.inr (.inl (2, k))) (semAt cc0_scratch8 2 k) (semAt cc0_scratch9 2 k) rfl rfl (toR src c k) (ownR dst c)
    rfl rfl fullShare X (.trans (by iintro H; iexists X; iexact H) hp₁)
    (by show _ ⊢ landed Y (plus c k) (minus (plus c k) k) 2; rw [minus_plus]; exact hp₂) O

theorem sendA_step (c n : Dev nD) (k : Fin 7) (hn : n = plus c k) (src : Memref sig .tc .vmem S256x64 .bf16) (dst : RBuf) (hs : src.IsWhole) (hd : dst.IsWhole)
    (X : S256x64.Idx → Elt F .bf16) (hp₁ : part c src (tok k) X ⊢ lent Y c (plus c k) (tok k) 3)
    (hp₂ : own (plus c k) (sR dst c) X ⊢ landed Y (plus c k) c 3) (O : Dues) :
    iprop(records Y K ∗ part c src (tok k) X ∗ free (plus c k) (sR dst c) ∗ owing c (O + rcvDue c 3 k) ∗ tk c (snd 3 k) 0 ∗ tk (plus c k) (rcv 3 k) 0)
      ⊢ run c (sendA src dst hs hd (semAt cc0_scratch8 3 k) (semAt cc0_scratch9 3 k) c n) fun _ => iprop(crd c (snd 3 k) (worth 3) ∗ owing c O) := by
  subst hn
  rw [← ownR_eq] at hp₂ ⊢
  exact send_step Y K c (plus c k) (.inl (3, k)) (.inr (.inl (3, k))) (semAt cc0_scratch8 3 k) (semAt cc0_scratch9 3 k) rfl rfl src (ownR dst c)
    rfl rfl (tok k) X hp₁ (by show _ ⊢ landed Y (plus c k) (minus (plus c k) k) 3; rw [minus_plus]; exact hp₂) O

end Transfers

/-! ## The summed block, shared out -/

/-- The summed block held outright is one share for the local copy and one for each send. -/
theorem share_out (c : Dev nD) (X : S256x64.Idx → Elt F .bf16) :
    own (F := F) c aS X = iprop(part c aS rest X ∗ bigSep Finset.univ fun k : Fin 7 => part c aS (tok k) X) := by
  refine (owns_whole (Ix := Unit) (Name := ℕ) (U := UU) (Lvl := ℕ) (c : Thread nD τ) cc0_scratch6 fullShare X).trans ?_
  rw [show (part c aS rest X : sProp 𝕄) = _ from owns_whole (Ix := Unit) (Name := ℕ) (U := UU) (Lvl := ℕ) (c : Thread nD τ) cc0_scratch6 rest X,
    bigSep_congr (fun (k : Fin 7) _ => (owns_whole (Ix := Unit) (Name := ℕ) (U := UU) (Lvl := ℕ) (c : Thread nD τ) cc0_scratch6 (tok k) X : (part c aS (tok k) X : sProp 𝕄) = _))]
  exact BI.Entails.antisymm (Transfers.pointsTo_toks_split fullShare 7) (Transfers.pointsTo_toks_join fullShare 7)

end Cert.KernelIdeal.Mesh

end
-- ==== Proof.KernelIdeal.Loops.lean ====
/-
  The loops of this kernel's body, each with what it takes and what it leaves.
-/
module

public import proofs.«01_k».proof.Proof.KernelIdeal.Moves

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The conjunction over the seven loop indices, and over the eight devices. -/
abbrev all7 (Φ : Fin 7 → sProp 𝕄) : sProp 𝕄 := bigSep Finset.univ Φ
abbrev all8 (Φ : Fin 8 → sProp 𝕄) : sProp 𝕄 := bigSep Finset.univ Φ

/-- The transfer semaphores. -/
abbrev Tcel : Type := (Fin 4 × Fin 7) ⊕ (Fin 4 × Fin 7) ⊕ Fin 4

section Waits

variable (Y : Cargo F) (K : Dev nD × Cel → ℕ)

/-- A loop of one wait per index. -/
theorem wait7 (c : Dev nD) (x : Fin 7 → Tcel) (sm : Fin 7 → DmaSem sig) (hsm : ∀ k, semOf (.inr (x k)) = .dma (sm k)) {s : Shape}
    (src dst : Fin 7 → Memref sig .tc .vmem s .bf16) (hs : ∀ k, (src k).view.WordExact) (hd : ∀ k, (dst k).view.WordExact)
    (N : ℕ) (hx : ∀ k, amt (.inr (x k)) = N) (hN : ∀ k, N = (dst k).view.dmaCredit)
    (n : ℕ) (O : Dues) (hO : Above n O) (hl : ∀ k, level (.inr (x k)) ≤ n) :
    iprop(records Y K ∗ owing c O ∗ all7 (fun k => crd c (.inr (x k)) N) ∗ all7 (fun k => pos c (.inr (x k))))
      ⊢ run c (for7 fun k => waitAt (sm k) (src k) (dst k) (hs k) (hd k))
          fun _ => iprop(owing c O ∗ all7 (fun k => done c (.inr (x k))) ∗ all7 (fun k => pay Y c (.inr (x k)) 0)) := by
  have h := loop7 c (records Y K) (fun _ => owing c O) (fun k => iprop(crd c (.inr (x k)) N ∗ pos c (.inr (x k))))
    (fun k => iprop(done c (.inr (x k)) ∗ pay Y c (.inr (x k)) 0)) (fun k => waitAt (sm k) (src k) (dst k) (hs k) (hd k)) fun k => by
      rw [← hx k]
      exact wait_step Y K c (x k) (sm k) (hsm k) (src k) (dst k) (hs k) (hd k) ((hx k).trans (hN k)) n O hO (hl k)
  simp only [bigSep_sep'] at h
  exact h

/-- A loop of two waits per index. -/
theorem wait77 (c : Dev nD) (x x' : Fin 7 → Tcel) (sm sm' : Fin 7 → DmaSem sig) (hsm : ∀ k, semOf (.inr (x k)) = .dma (sm k))
    (hsm' : ∀ k, semOf (.inr (x' k)) = .dma (sm' k)) {s : Shape}
    (src dst src' dst' : Fin 7 → Memref sig .tc .vmem s .bf16) (hs : ∀ k, (src k).view.WordExact) (hd : ∀ k, (dst k).view.WordExact)
    (hs' : ∀ k, (src' k).view.WordExact) (hd' : ∀ k, (dst' k).view.WordExact)
    (N : ℕ) (hx : ∀ k, amt (.inr (x k)) = N) (hx' : ∀ k, amt (.inr (x' k)) = N) (hN : ∀ k, N = (dst k).view.dmaCredit)
    (hN' : ∀ k, N = (dst' k).view.dmaCredit) (n : ℕ) (O : Dues) (hO : Above n O) (hl : ∀ k, level (.inr (x k)) ≤ n) (hl' : ∀ k, level (.inr (x' k)) ≤ n) :
    iprop(records Y K ∗ owing c O ∗ (all7 (fun k => crd c (.inr (x k)) N) ∗ all7 (fun k => pos c (.inr (x k))))
        ∗ (all7 (fun k => crd c (.inr (x' k)) N) ∗ all7 (fun k => pos c (.inr (x' k)))))
      ⊢ run c (for7 fun k => do waitAt (sm k) (src k) (dst k) (hs k) (hd k); waitAt (sm' k) (src' k) (dst' k) (hs' k) (hd' k))
          fun _ => iprop(owing c O ∗ (all7 (fun k => done c (.inr (x k))) ∗ all7 (fun k => pay Y c (.inr (x k)) 0))
            ∗ (all7 (fun k => done c (.inr (x' k))) ∗ all7 (fun k => pay Y c (.inr (x' k)) 0))) := by
  have h := loop7 c (records Y K) (fun _ => owing c O)
    (fun k => iprop((crd c (.inr (x k)) N ∗ pos c (.inr (x k))) ∗ (crd c (.inr (x' k)) N ∗ pos c (.inr (x' k)))))
    (fun k => iprop((done c (.inr (x k)) ∗ pay Y c (.inr (x k)) 0) ∗ (done c (.inr (x' k)) ∗ pay Y c (.inr (x' k)) 0)))
    (fun k => do waitAt (sm k) (src k) (dst k) (hs k) (hd k); waitAt (sm' k) (src' k) (dst' k) (hs' k) (hd' k)) fun k => by
      have w := wait_step Y K c (x k) (sm k) (hsm k) (src k) (dst k) (hs k) (hd k) ((hx k).trans (hN k)) n O hO (hl k)
      have w' := wait_step Y K c (x' k) (sm' k) (hsm' k) (src' k) (dst' k) (hs' k) (hd' k) ((hx' k).trans (hN' k)) n O hO (hl' k)
      rw [hx k] at w
      rw [hx' k] at w'
      iintro ⟨#HR, HO, ⟨Hc, Hp⟩, Hc', Hp'⟩
      iapply (andThen c w)
      isplitl [HO Hc Hp]
      · isplitr; · iexact HR
        isplitl [HO]; · iexact HO
        isplitl [Hc] <;> iassumption
      iintro %_ ⟨HO, Hw⟩
      iapply (lastly c w')
      isplitl [HO Hc' Hp']
      · isplitr; · iexact HR
        isplitl [HO]; · iexact HO
        isplitl [Hc'] <;> iassumption
      iintro %_ ⟨HO, Hw'⟩
      isplitl [HO]; · iexact HO
      isplitl [Hw]; · iexact Hw
      iexact Hw'
  simp only [bigSep_sep'] at h
  exact h

end Waits

section Loops

variable (J : Inputs F) (K : Dev nD × Cel → ℕ)

/-- The signals: every other device is given this device's landing slots for it. -/
theorem signals_loop (Y : Cargo F) (c : Dev nD) :
    iprop(records Y K ∗ owing c (O₀ c) ∗ all7 (fun k => tk (plus c k) bar k) ∗ all7 (fun k => opened (plus c k) c))
      ⊢ run c (for7 (signal c)) fun _ => owing c (O₁ c) := by
  have h := loop7 c (records Y K) (fun n => owing c (dues (sigDue c) n + O₁ c)) (fun k => iprop(tk (plus c k) bar k ∗ opened (plus c k) c)) (fun _ => iprop(emp))
    (signal c) fun k => by
      rw [dues_step, add_right_comm]
      iintro ⟨#HR, HO, Ht, Hp⟩
      iapply (lastly c (signal_step Y K c k (dues (sigDue c) (k.val + 1) + O₁ c)))
      isplitl [HO Ht Hp]
      · isplitr; · iexact HR
        isplitl [HO]; · iexact HO
        isplitl [Ht] <;> iassumption
      iintro %_ HO
      isplitl [HO]; · iexact HO
      iempintro
  simp only [bigSep_sep'] at h
  rw [dues_end, zero_add] at h
  refine h.trans (wp_mono _ _ _ fun _ => ?_)
  iintro ⟨HO, -⟩
  iexact HO

/-- The casts: the keys and the values to send, by target. -/
theorem casts_loop (c : Dev nD) (sk sv : Memref sig .tc .vmem S2x128x32x64 .f32) (bk bv : KBuf) (hk : bk.IsWhole) (hv : bv.IsWhole)
    (Xk Xv : Vec F S2x128x32x64 .f32) :
    iprop((own c sk Xk ∗ own c sv Xv) ∗ all8 (fun j => free c (sK bk j)) ∗ all8 (fun j => free c (sK bv j)))
      ⊢ run c (for8 fun j => do castHeads sk bk hk j; castHeads sv bv hv j)
          fun _ => iprop((own c sk Xk ∗ own c sv Xv) ∗ all8 (fun j => own c (sK bk j) (heads Xk j)) ∗ all8 (fun j => own c (sK bv j) (heads Xv j))) := by
  have h := loop8 c iprop(own c sk Xk ∗ own c sv Xv) (fun j => iprop(free c (sK bk j) ∗ free c (sK bv j)))
    (fun j => iprop(own c (sK bk j) (heads Xk j) ∗ own c (sK bv j) (heads Xv j))) (fun j => do castHeads sk bk hk j; castHeads sv bv hv j) fun j => by
      iintro ⟨⟨Hk, Hv⟩, Hdk, Hdv⟩
      iapply (andThen c (castHeads_step c sk bk hk Xk j))
      isplitl [Hk Hdk]; · isplitl [Hk] <;> iassumption
      iintro %_ ⟨Hk, Hdk⟩
      iapply (lastly c (castHeads_step c sv bv hv Xv j))
      isplitl [Hv Hdv]; · isplitl [Hv] <;> iassumption
      iintro %_ ⟨Hv, Hdv⟩
      isplitl [Hk Hv]; · isplitl [Hk] <;> iassumption
      isplitl [Hdk] <;> iassumption
  simp only [bigSep_sep'] at h
  exact h

/-- The sends of keys and values. -/
theorem sendKV_loop (c : Dev nD) (hks : kS.IsWhole) (hvs : vS.IsWhole) (hka : kA.IsWhole) (hva : vA.IsWhole) (O : Dues) :
    iprop(records (cargo J) K ∗ owing c (dues (kvDue c) 0 + O)
        ∗ (all7 (fun k => own c (sK kS (plus c k)) (heads (J.k c) (plus c k))) ∗ all7 (fun k => free (plus c k) (sK kA c))
          ∗ all7 (fun k => tk c (snd 0 k) 0) ∗ all7 (fun k => tk (plus c k) (rcv 0 k) 0))
        ∗ (all7 (fun k => own c (sK vS (plus c k)) (heads (J.v c) (plus c k))) ∗ all7 (fun k => free (plus c k) (sK vA c))
          ∗ all7 (fun k => tk c (snd 1 k) 0) ∗ all7 (fun k => tk (plus c k) (rcv 1 k) 0)))
      ⊢ run c (for7 fun k => do
            sendK kS kA hks hka (semAt cc0_scratch8 0 k) (semAt cc0_scratch9 0 k) c (devK c k) k
            sendK vS vA hvs hva (semAt cc0_scratch8 1 k) (semAt cc0_scratch9 1 k) c (devV c k) k)
          fun _ => iprop(owing c O ∗ all7 (fun k => crd c (snd 0 k) NK) ∗ all7 (fun k => crd c (snd 1 k) NK)) := by
  have h := loop7 c (records (cargo J) K) (fun n => owing c (dues (kvDue c) n + O))
    (fun k => iprop((own c (sK kS (plus c k)) (heads (J.k c) (plus c k)) ∗ free (plus c k) (sK kA c) ∗ tk c (snd 0 k) 0 ∗ tk (plus c k) (rcv 0 k) 0)
      ∗ (own c (sK vS (plus c k)) (heads (J.v c) (plus c k)) ∗ free (plus c k) (sK vA c) ∗ tk c (snd 1 k) 0 ∗ tk (plus c k) (rcv 1 k) 0)))
    (fun k => iprop(crd c (snd 0 k) NK ∗ crd c (snd 1 k) NK))
    (fun k => do
            sendK kS kA hks hka (semAt cc0_scratch8 0 k) (semAt cc0_scratch9 0 k) c (devK c k) k
            sendK vS vA hvs hva (semAt cc0_scratch8 1 k) (semAt cc0_scratch9 1 k) c (devV c k) k) fun k => by
      rw [dues_step, show dues (kvDue c) (k.val + 1) + kvDue c k + O = (dues (kvDue c) (k.val + 1) + O + rcvDue c 1 k) + rcvDue c 0 k by
        rw [add_right_comm, show kvDue c k = rcvDue c 1 k + rcvDue c 0 k from add_comm _ _, ← add_assoc]]
      iintro ⟨#HR, HO, ⟨Hs, Hd, Ht, Ht'⟩, Gs, Gd, Gt, Gt'⟩
      iapply (andThen c (sendK_step (cargo J) K c (devK c k) k (devK_eq c k) 0 (by decide) kS kA hks hka (heads (J.k c) (plus c k))
        (BI.Entails.refl _) (BI.Entails.refl _) (dues (kvDue c) (k.val + 1) + O + rcvDue c 1 k)))
      isplitl [HO Hs Hd Ht Ht']
      · isplitr; · iexact HR
        isplitl [Hs]; · iexact Hs
        isplitl [Hd]; · iexact Hd
        isplitl [HO]; · iexact HO
        isplitl [Ht] <;> iassumption
      iintro %_ ⟨Hc, HO⟩
      iapply (lastly c (sendK_step (cargo J) K c (devV c k) k (devV_eq c k) 1 (by decide) vS vA hvs hva (heads (J.v c) (plus c k))
        (BI.Entails.refl _) (BI.Entails.refl _) (dues (kvDue c) (k.val + 1) + O)))
      isplitl [HO Gs Gd Gt Gt']
      · isplitr; · iexact HR
        isplitl [Gs]; · iexact Gs
        isplitl [Gd]; · iexact Gd
        isplitl [HO]; · iexact HO
        isplitl [Gt] <;> iassumption
      iintro %_ ⟨Hc', HO⟩
      isplitl [HO]; · iexact HO
      isplitl [Hc]; · iexact Hc
      iexact Hc'
  simp only [bigSep_sep'] at h
  rw [dues_end, zero_add] at h
  exact h

/-- The sends of partial outputs. -/
theorem sendR_loop (c : Dev nD) (hm : mB.IsWhole) (hr : rB.IsWhole) (O : Dues) :
    iprop(records (cargo J) K ∗ owing c (dues (rcvDue c 2) 0 + O)
        ∗ all7 (fun k => own c (sR mB (plus c k)) (mine J c (plus c k))) ∗ all7 (fun k => free (plus c k) (sR rB c))
        ∗ all7 (fun k => tk c (snd 2 k) 0) ∗ all7 (fun k => tk (plus c k) (rcv 2 k) 0))
      ⊢ run c (for7 fun k => sendR mB rB hm hr (semAt cc0_scratch8 2 k) (semAt cc0_scratch9 2 k) c (devR c k) k)
          fun _ => iprop(owing c O ∗ all7 (fun k => crd c (snd 2 k) NR)) := by
  have h := loop7 c (records (cargo J) K) (fun n => owing c (dues (rcvDue c 2) n + O))
    (fun k => iprop(own c (sR mB (plus c k)) (mine J c (plus c k)) ∗ free (plus c k) (sR rB c) ∗ tk c (snd 2 k) 0 ∗ tk (plus c k) (rcv 2 k) 0))
    (fun k => crd c (snd 2 k) NR) (fun k => sendR mB rB hm hr (semAt cc0_scratch8 2 k) (semAt cc0_scratch9 2 k) c (devR c k) k) fun k => by
      rw [dues_step, add_right_comm]
      iintro ⟨#HR, HO, Hs, Hd, Ht, Ht'⟩
      iapply (lastly c (sendR_step (cargo J) K c (devR c k) k (devR_eq c k) mB rB hm hr (mine J c (plus c k))
        (BI.Entails.refl _) (BI.Entails.refl _) (dues (rcvDue c 2) (k.val + 1) + O)))
      isplitl [HO Hs Hd Ht Ht']
      · isplitr; · iexact HR
        isplitl [Hs]; · iexact Hs
        isplitl [Hd]; · iexact Hd
        isplitl [HO]; · iexact HO
        isplitl [Ht] <;> iassumption
      iintro %_ ⟨Hc, HO⟩
      isplitl [HO]; · iexact HO
      iexact Hc
  simp only [bigSep_sep'] at h
  rw [dues_end, zero_add] at h
  exact h

/-- The sends of the summed block. -/
theorem sendA_loop (c : Dev nD) (ha : aS.IsWhole) (hb : aB.IsWhole) :
    iprop(records (cargo J) K ∗ owing c (dues (rcvDue c 3) 0)
        ∗ all7 (fun k => part c aS (tok k) (summed J c)) ∗ all7 (fun k => free (plus c k) (sR aB c))
        ∗ all7 (fun k => tk c (snd 3 k) 0) ∗ all7 (fun k => tk (plus c k) (rcv 3 k) 0))
      ⊢ run c (for7 fun k => sendA aS aB ha hb (semAt cc0_scratch8 3 k) (semAt cc0_scratch9 3 k) c (devA c k))
          fun _ => iprop(owing c 0 ∗ all7 (fun k => crd c (snd 3 k) NR)) := by
  have h := loop7 c (records (cargo J) K) (fun n => owing c (dues (rcvDue c 3) n))
    (fun k => iprop(part c aS (tok k) (summed J c) ∗ free (plus c k) (sR aB c) ∗ tk c (snd 3 k) 0 ∗ tk (plus c k) (rcv 3 k) 0))
    (fun k => crd c (snd 3 k) NR) (fun k => sendA aS aB ha hb (semAt cc0_scratch8 3 k) (semAt cc0_scratch9 3 k) c (devA c k)) fun k => by
      rw [dues_step]
      iintro ⟨#HR, HO, Hs, Hd, Ht, Ht'⟩
      iapply (lastly c (sendA_step (cargo J) K c (devA c k) k (devA_eq c k) aS aB ha hb (summed J c)
        (BI.Entails.refl _) (BI.Entails.refl _) (dues (rcvDue c 3) (k.val + 1))))
      isplitl [HO Hs Hd Ht Ht']
      · isplitr; · iexact HR
        isplitl [Hs]; · iexact Hs
        isplitl [Hd]; · iexact Hd
        isplitl [HO]; · iexact HO
        isplitl [Ht] <;> iassumption
      iintro %_ ⟨Hc, HO⟩
      isplitl [HO]; · iexact HO
      iexact Hc
  simp only [bigSep_sep'] at h
  rw [dues_end] at h
  exact h

/-- The stores of this device's partial output, by target. -/
theorem puts_loop (c : Dev nD) (b : RBuf) (hb : b.IsWhole) (w : Fin 8 → FVec F S1x256x64 .bf16) :
    all8 (fun j => free (F := F) c (sR b j))
      ⊢ run c (for8 fun j => putBlock b hb j (w j))
          fun _ => all8 (fun j => own c (sR b j) fun i => w j (Shape.reshapeEquiv squeezes_S1x256x64_S256x64.numel_eq i)) := by
  have h := loop8 c iprop(emp) (fun j => free c (sR b j)) (fun j => own c (sR b j) fun i => w j (Shape.reshapeEquiv squeezes_S1x256x64_S256x64.numel_eq i))
    (fun j => putBlock b hb j (w j)) fun j => by
      iintro ⟨-, H⟩
      iapply (lastly c (putBlock_step c b hb j (w j)))
      isplitl [H]; · iexact H
      iintro %_ H
      isplitr; · iempintro
      iexact H
  refine .trans ?_ (h.trans (wp_mono _ _ _ fun _ => ?_))
  · iintro H
    isplitr; · iempintro
    iexact H
  · iintro ⟨-, H⟩
    iexact H

end Loops

end Cert.KernelIdeal.Mesh

end
-- ==== Proof.KernelIdeal.Body.lean ====
/-
  The whole body on a device: from its inputs, its scratch buffers and its part of the protocol to its
  output, with every semaphore back at zero.
-/
module

public import proofs.«01_k».proof.Proof.KernelIdeal.Loops

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The staging buffers. -/
abbrev gX : Memref sig .tc .vmem S2x128x512 .f32 := Memref.whole cc0_stg0_0
abbrev gWq : Memref sig .tc .vmem S512x256 .f32 := Memref.whole cc0_stg1_0
abbrev gK : Memref sig .tc .vmem S2x128x32x64 .f32 := Memref.whole cc0_stg2_0
abbrev gV : Memref sig .tc .vmem S2x128x32x64 .f32 := Memref.whole cc0_stg3_0
abbrev gWo : Memref sig .tc .vmem S256x512 .f32 := Memref.whole cc0_stg4_0
abbrev gO : Memref sig .tc .vmem S2x128x512 .f32 := Memref.whole cc0_stg5_0

/-- What a device starts row `r` of the transfers with, and what it ends it with. -/
def rowStart (c : Dev nD) (r : Fin 4) : sProp 𝕄 :=
  iprop((all7 (fun k => tk c (snd r k) 0) ∗ all7 (fun k => tk (plus c k) (rcv r k) 0))
    ∗ all7 (fun k => pos c (snd r k)) ∗ all7 (fun k => pos c (rcv r k)) ∗ all7 (fun k => crd c (rcv r k) (worth r)))
def rowEnd (c : Dev nD) (r : Fin 4) : sProp 𝕄 := iprop(all7 (fun k => done c (snd r k)) ∗ all7 (fun k => done c (rcv r k)))
def locStart (c : Dev nD) (l : Fin 4) : sProp 𝕄 := iprop(tk c (loc l) 0 ∗ pos c (loc l))

/-- The device's part of the protocol at the start and at the end. -/
def ghost (c : Dev nD) : sProp 𝕄 :=
  iprop((all7 (fun k => tk (plus c k) bar k) ∗ pos c bar ∗ crd c bar 7)
    ∗ (rowStart c 0 ∗ rowStart c 1 ∗ rowStart c 2 ∗ rowStart c 3) ∗ (locStart c 0 ∗ locStart c 1 ∗ locStart c 2 ∗ locStart c 3))
def allDone (c : Dev nD) : sProp 𝕄 :=
  iprop(done c bar ∗ (rowEnd c 0 ∗ rowEnd c 1 ∗ rowEnd c 2 ∗ rowEnd c 3) ∗ (done c (loc 0) ∗ done c (loc 1) ∗ done c (loc 2) ∗ done c (loc 3)))
def scratch (c : Dev nD) : sProp 𝕄 :=
  iprop(free (F := F) c kS ∗ free (F := F) c vS ∗ free (F := F) c kA ∗ free (F := F) c vA ∗ free (F := F) c mB ∗ free (F := F) c rB ∗ free (F := F) c aS ∗ free (F := F) c aB)

theorem minus_is_plus : ∀ c : Dev nD, Finset.univ.map (minusEmb c) = Finset.univ.map (plusEmb c) := by decide +kernel
/-- The seven devices before are the seven after. -/
theorem minus_to_plus (c : Dev nD) (Φ : Dev nD → sProp 𝕄) : all7 (fun k => Φ (minus c k)) = all7 (fun k => Φ (plus c k)) := by
  have h := congrArg (fun s => bigSep s Φ) (minus_is_plus c)
  simp only [bigSep_map] at h
  exact h

theorem free_of (c : Dev nD) {s : Shape} {e : EltTy} (b : Memref sig .tc .vmem s e) (X : s.Idx → Elt F e) : own c b X ⊢ free (F := F) c b := by
  iintro H; iexists X; iexact H

/-- A device's landing slots: its own, and the seven it opens to the others. -/
theorem landing_split (c : Dev nD) :
    iprop(free (F := F) c kA ∗ free c vA ∗ free c rB ∗ free c aB)
      ⊢ iprop((free c (sK kA c) ∗ free c (sK vA c) ∗ free c (sR rB c) ∗ free c (sR aB c)) ∗ all7 (fun k => opened (plus c k) c)) := by
  have h : (all8 fun j => iprop(free (F := F) c (sK kA j) ∗ free c (sK vA j) ∗ free c (sR rB j) ∗ free c (sR aB j)))
      = iprop((free c (sK kA c) ∗ free c (sK vA c) ∗ free c (sR rB c) ∗ free c (sR aB c)) ∗ all7 (fun k => opened (plus c k) c)) := bigSep_plus c _
  rw [← h]
  simp only [bigSep_sep']
  exact BIClass.sep_mono (splitK c kA) (BIClass.sep_mono (splitK c vA) (BIClass.sep_mono (splitR c rB) (splitR c aB)))

/-- The other devices' landing slots for this one, buffer by buffer. -/
theorem opened_plus (c : Dev nD) :
    all7 (fun k => opened (F := F) c (minus c k))
      = iprop(all7 (fun k => free (plus c k) (sK kA c)) ∗ all7 (fun k => free (plus c k) (sK vA c))
        ∗ all7 (fun k => free (plus c k) (sR rB c)) ∗ all7 (fun k => free (plus c k) (sR aB c))) := by
  rw [minus_to_plus c (fun s => opened c s)]
  unfold opened
  simp only [bigSep_sep']

/-- The eight blocks read back, joined, are the output. -/
theorem joined_blocks (J : Inputs F) {a0 a1 a2 a3 a4 a5 a6 a7 : Vec F S1x256x64 .bf16}
    (h0 : a0 = fun a => gatherR (summed J) ((rectR 0).emb a)) (h1 : a1 = fun a => gatherR (summed J) ((rectR 1).emb a))
    (h2 : a2 = fun a => gatherR (summed J) ((rectR 2).emb a)) (h3 : a3 = fun a => gatherR (summed J) ((rectR 3).emb a))
    (h4 : a4 = fun a => gatherR (summed J) ((rectR 4).emb a)) (h5 : a5 = fun a => gatherR (summed J) ((rectR 5).emb a))
    (h6 : a6 = fun a => gatherR (summed J) ((rectR 6).emb a)) (h7 : a7 = fun a => gatherR (summed J) ((rectR 7).emb a)) :
    joined ![a0, a1, a2, a3, a4, a5, a6, a7] = outcome J := by
  subst h0 h1 h2 h3 h4 h5 h6 h7
  unfold outcome
  refine congrArg joined (funext fun j => ?_)
  fin_cases j <;> rfl

section Joins

variable (J : Inputs F)

theorem mine_split (c : Dev nD) :
    (all8 fun j => own c (sR mB j) fun i => blocks (k0_pay20 (J.x c) (J.wq c)) (keys J c) (vals J c) (J.wo c) j (Shape.reshapeEquiv squeezes_S1x256x64_S256x64.numel_eq i))
      ⊢ iprop(own c (sR mB c) (mine J c c) ∗ all7 (fun k => own c (sR mB (plus c k)) (mine J c (plus c k)))) :=
  Entails.of_eq (bigSep_plus c fun j => own c (sR mB j) (mine J c j))
theorem keys_join (c : Dev nD) :
    iprop(own c (sK kA c) (heads (J.k c) c) ∗ all7 (fun k => own c (sK kA (minus c k)) (heads (J.k (minus c k)) c))) ⊢ own c kA (keys J c) :=
  (Entails.of_eq (bigSep_minus c fun s => own c (sK kA s) (heads (J.k s) c)).symm).trans (joinK c kA fun s => heads (J.k s) c)
theorem vals_join (c : Dev nD) :
    iprop(own c (sK vA c) (heads (J.v c) c) ∗ all7 (fun k => own c (sK vA (minus c k)) (heads (J.v (minus c k)) c))) ⊢ own c vA (vals J c) :=
  (Entails.of_eq (bigSep_minus c fun s => own c (sK vA s) (heads (J.v s) c)).symm).trans (joinK c vA fun s => heads (J.v s) c)
theorem mine_join (c : Dev nD) :
    iprop(own c (sR rB c) (mine J c c) ∗ all7 (fun k => own c (sR rB (minus c k)) (mine J (minus c k) c))) ⊢ own c rB (gatherR fun s => mine J s c) :=
  (Entails.of_eq (bigSep_minus c fun s => own c (sR rB s) (mine J s c)).symm).trans (joinR c rB fun s => mine J s c)
theorem summed_join (c : Dev nD) :
    iprop(own c (sR aB c) (summed J c) ∗ all7 (fun k => own c (sR aB (minus c k)) (summed J (minus c k)))) ⊢ own c aB (gatherR (summed J)) :=
  (Entails.of_eq (bigSep_minus c fun s => own c (sR aB s) (summed J s)).symm).trans (joinR c aB (summed J))
theorem freeK_join (c : Dev nD) (b : KBuf) : iprop(free (F := F) c (sK b c) ∗ all7 (fun k => free c (sK b (plus c k)))) ⊢ free c b :=
  (Entails.of_eq (bigSep_plus c fun s => free c (sK b s)).symm).trans (freeK c b)
theorem freeR_join (c : Dev nD) (b : RBuf) : iprop(free (F := F) c (sR b c) ∗ all7 (fun k => free c (sR b (plus c k)))) ⊢ free c b :=
  (Entails.of_eq (bigSep_plus c fun s => free c (sR b s)).symm).trans (freeR c b)

end Joins

variable (J : Inputs F) (K : Dev nD × Cel → ℕ)

/-- What the body starts from, and what it ends in. -/
def before (c : Dev nD) : sProp 𝕄 :=
  iprop(records (cargo J) K ∗ owing c (O₀ c) ∗ ghost c ∗ scratch c
    ∗ own c gX (J.x c) ∗ own c gWq (J.wq c) ∗ own c gK (J.k c) ∗ own c gV (J.v c) ∗ own c gWo (J.wo c) ∗ free c gO)
def after (c : Dev nD) : sProp 𝕄 :=
  iprop(owing c 0 ∗ allDone c ∗ scratch c
    ∗ own c gX (J.x c) ∗ own c gWq (J.wq c) ∗ own c gK (J.k c) ∗ own c gV (J.v c) ∗ own c gWo (J.wo c) ∗ own c gO (outcome J))

set_option maxHeartbeats 4000000 in
set_option maxRecDepth 8000 in
theorem body_run (c : Dev nD) :
    before J K c ⊢ run c (body gX (Memref.isWhole_whole _) gWq (Memref.isWhole_whole _) gK (Memref.isWhole_whole _) gV (Memref.isWhole_whole _)
      gWo (Memref.isWhole_whole _) gO (Memref.isWhole_whole _) kS (Memref.isWhole_whole _) vS (Memref.isWhole_whole _) kA (Memref.isWhole_whole _)
      vA (Memref.isWhole_whole _) mB (Memref.isWhole_whole _) rB (Memref.isWhole_whole _) aS (Memref.isWhole_whole _) aB (Memref.isWhole_whole _)
      cc0_scratch8 cc0_scratch9 cc0_scratch10) fun _ => after J c := by
  unfold before ghost scratch rowStart locStart body
  iintro ⟨#HR, HO, ⟨⟨Htb, Hpb, Hcb⟩, ⟨⟨⟨Hs0, Hr0⟩, Hps0, Hpr0, Hcr0⟩, ⟨⟨Hs1, Hr1⟩, Hps1, Hpr1, Hcr1⟩, ⟨⟨Hs2, Hr2⟩, Hps2, Hpr2, Hcr2⟩, ⟨⟨Hs3, Hr3⟩, Hps3, Hpr3, Hcr3⟩⟩,
    ⟨Ht0, Hp0⟩, ⟨Ht1, Hp1⟩, ⟨Ht2, Hp2⟩, ⟨Ht3, Hp3⟩⟩, ⟨HkS, HvS, HkA, HvA, HmB, HrB, HaS, HaB⟩, HgX, HgWq, HgK, HgV, HgWo, HgO⟩
  iapply (andThen c (show (emp : sProp 𝕄) ⊢ run c (Prog.lift .deviceId) fun d => iprop(⌜d = c⌝) from by
    unfold run Prog.lift
    rw [wp_deviceId, wp_ret]
    iintro -; imodintro; ipureintro; rfl))
  isplitr; · iempintro
  iintro %d %hd
  subst hd
  -- the barrier
  ihave HL := (landing_split d) $$ [HkA HvA HrB HaB]
  · isplitl [HkA]; · iexact HkA
    isplitl [HvA]; · iexact HvA
    isplitl [HrB] <;> iassumption
  icases HL with ⟨⟨HkA, HvA, HrB, HaB⟩, Hop⟩
  iapply (andThen d (signals_loop K (cargo J) d))
  isplitl [HO Htb Hop]
  · isplitr; · iexact HR
    isplitl [HO]; · iexact HO
    isplitl [Htb] <;> iassumption
  iintro %_ HO
  iapply (andThen d (bar_step (cargo J) K d (O₁ d) ((Above.kv d 0).add ((Above.rcv d 2 (by decide) 0).add (Above.rcv d 3 (by decide) 0)))))
  isplitl [HO Hpb Hcb]
  · isplitr; · iexact HR
    isplitl [HO]; · iexact HO
    isplitl [Hcb] <;> iassumption
  iintro %_ ⟨HO, Zb, Hop⟩
  ihave Hop := (Entails.of_eq (opened_plus d)) $$ Hop
  icases Hop with ⟨HkN, HvN, HrN, HaN⟩
  -- the casts
  ihave HkS := (splitK d kS) $$ HkS
  ihave HvS := (splitK d vS) $$ HvS
  iapply (andThen d (casts_loop d gK gV kS vS (Memref.isWhole_whole _) (Memref.isWhole_whole _) (J.k d) (J.v d)))
  isplitl [HgK HgV HkS HvS]
  · isplitl [HgK HgV]; · isplitl [HgK] <;> iassumption
    isplitl [HkS] <;> iassumption
  iintro %_ ⟨⟨HgK, HgV⟩, HkS, HvS⟩
  ihave HkS := (Entails.of_eq (bigSep_plus d fun j => own d (sK kS j) (heads (J.k d) j))) $$ HkS
  icases HkS with ⟨HkS0, HkS⟩
  ihave HvS := (Entails.of_eq (bigSep_plus d fun j => own d (sK vS j) (heads (J.v d) j))) $$ HvS
  icases HvS with ⟨HvS0, HvS⟩
  -- the local copies and the sends
  iapply (andThen d (hereK_step (cargo J) K d 0 (by decide) kS kA (Memref.isWhole_whole _) (Memref.isWhole_whole _) (heads (J.k d) d) (BI.Entails.refl _)))
  isplitl [HkS0 HkA Ht0]
  · isplitr; · iexact HR
    isplitl [HkS0]; · iexact HkS0
    isplitl [HkA] <;> iassumption
  iintro %_ Hc0
  iapply (andThen d (hereK_step (cargo J) K d 1 (by decide) vS vA (Memref.isWhole_whole _) (Memref.isWhole_whole _) (heads (J.v d) d) (BI.Entails.refl _)))
  isplitl [HvS0 HvA Ht1]
  · isplitr; · iexact HR
    isplitl [HvS0]; · iexact HvS0
    isplitl [HvA] <;> iassumption
  iintro %_ Hc1
  unfold O₁
  iapply (andThen d (sendKV_loop J K d (Memref.isWhole_whole _) (Memref.isWhole_whole _) (Memref.isWhole_whole _) (Memref.isWhole_whole _)
    (dues (rcvDue d 2) 0 + dues (rcvDue d 3) 0)))
  isplitl [HO HkS HkN Hs0 Hr0 HvS HvN Hs1 Hr1]
  · isplitr; · iexact HR
    isplitl [HO]; · iexact HO
    isplitl [HkS HkN Hs0 Hr0]
    · isplitl [HkS]; · iexact HkS
      isplitl [HkN]; · iexact HkN
      isplitl [Hs0] <;> iassumption
    isplitl [HvS]; · iexact HvS
    isplitl [HvN]; · iexact HvN
    isplitl [Hs1] <;> iassumption
  iintro %_ ⟨HO, Hcs0, Hcs1⟩
  -- the query side, and the waits for keys and values
  iapply (andThen d (load_all d gX ![0, 0, 0] (by decide) _ (J.x d) _))
  isplitl [HgX]; · iexact HgX
  iintro %x0 ⟨%hx0, HgX⟩
  subst hx0
  iapply (andThen d (load_all d gWq ![0, 0] (by decide) _ (J.wq d) _))
  isplitl [HgWq]; · iexact HgWq
  iintro %x1 ⟨%hx1, HgWq⟩
  subst hx1
  iapply (andThen d (wait_step (cargo J) K d (.inr (.inr 0)) (semLoc cc0_scratch10 0) rfl (ownK kS d) (ownK kA d) _ _ rfl 2 _
    ((Above.rcv d 2 (by decide) 0).add (Above.rcv d 3 (by decide) 0)) (by decide)))
  isplitl [HO Hc0 Hp0]
  · isplitr; · iexact HR
    isplitl [HO]; · iexact HO
    isplitl [Hc0]; · iexact Hc0
    iexact Hp0
  iintro %_ ⟨HO, Z0, Hq⟩
  ihave Hq := (Entails.of_eq (show pay (cargo J) d (loc 0) 0 = iprop(own d (sK kA d) (heads (J.k d) d) ∗ free d (sK kS d)) from rfl)) $$ Hq
  icases Hq with ⟨HkA, HkS⟩
  iapply (andThen d (wait_step (cargo J) K d (.inr (.inr 1)) (semLoc cc0_scratch10 1) rfl (ownK vS d) (ownK vA d) _ _ rfl 2 _
    ((Above.rcv d 2 (by decide) 0).add (Above.rcv d 3 (by decide) 0)) (by decide)))
  isplitl [HO Hc1 Hp1]
  · isplitr; · iexact HR
    isplitl [HO]; · iexact HO
    isplitl [Hc1]; · iexact Hc1
    iexact Hp1
  iintro %_ ⟨HO, Z1, Hq⟩
  ihave Hq := (Entails.of_eq (show pay (cargo J) d (loc 1) 0 = iprop(own d (sK vA d) (heads (J.v d) d) ∗ free d (sK vS d)) from rfl)) $$ Hq
  icases Hq with ⟨HvA, HvS⟩
  iapply (andThen d (wait77 (cargo J) K d (fun k => .inr (.inl (0, k))) (fun k => .inr (.inl (1, k))) (fun k => semAt cc0_scratch9 0 k) (fun k => semAt cc0_scratch9 1 k)
    (fun _ => rfl) (fun _ => rfl) (fun k => toK kS d k) (fun _ => ownK kA d) (fun k => toK vS d k) (fun _ => ownK vA d) _ _ _ _ NK
    (fun _ => rfl) (fun _ => rfl) (fun _ => rfl) (fun _ => rfl) 2 _
    ((Above.rcv d 2 (by decide) 0).add (Above.rcv d 3 (by decide) 0)) (by decide) (by decide)))
  isplitl [HO Hcr0 Hpr0 Hcr1 Hpr1]
  · isplitr; · iexact HR
    isplitl [HO]; · iexact HO
    isplitl [Hcr0 Hpr0]
    · isplitl [Hcr0]; · iexact Hcr0
      iexact Hpr0
    isplitl [Hcr1]; · iexact Hcr1
    iexact Hpr1
  iintro %_ ⟨HO, ⟨Zr0, HkN⟩, ⟨Zr1, HvN⟩⟩
  ihave HkA := (keys_join J d) $$ [HkA HkN]
  · isplitl [HkA]; · iexact HkA
    iexact HkN
  ihave HvA := (vals_join J d) $$ [HvA HvN]
  · isplitl [HvA]; · iexact HvA
    iexact HvN
  iapply (andThen d (load_all d kA ![0, 0, 0, 0, 0] (by decide) _ (keys J d) _))
  isplitl [HkA]; · iexact HkA
  iintro %x2 ⟨%hx2, HkA⟩
  subst hx2
  iapply (andThen d (load_all d vA ![0, 0, 0, 0, 0] (by decide) _ (vals J d) _))
  isplitl [HvA]; · iexact HvA
  iintro %x3 ⟨%hx3, HvA⟩
  subst hx3
  iapply (andThen d (load_all d gWo ![0, 0] (by decide) _ (J.wo d) _))
  isplitl [HgWo]; · iexact HgWo
  iintro %x4 ⟨%hx4, HgWo⟩
  subst hx4
  -- the blocks of the partial product, kept and sent
  ihave HmB := (splitR d mB) $$ HmB
  iapply (andThen d (puts_loop d mB (Memref.isWhole_whole _) _))
  isplitl [HmB]; · iexact HmB
  iintro %_ HmB
  ihave HmB := (mine_split J d) $$ HmB
  icases HmB with ⟨HmB0, HmB⟩
  iapply (andThen d (hereR_step (cargo J) K d mB rB (Memref.isWhole_whole _) (Memref.isWhole_whole _) (mine J d d) (BI.Entails.refl _)))
  isplitl [HmB0 HrB Ht2]
  · isplitr; · iexact HR
    isplitl [HmB0]; · iexact HmB0
    isplitl [HrB] <;> iassumption
  iintro %_ Hc2
  iapply (andThen d (sendR_loop J K d (Memref.isWhole_whole _) (Memref.isWhole_whole _) (dues (rcvDue d 3) 0)))
  isplitl [HO HmB HrN Hs2 Hr2]
  · isplitr; · iexact HR
    isplitl [HO]; · iexact HO
    isplitl [HmB]; · iexact HmB
    isplitl [HrN]; · iexact HrN
    isplitl [Hs2] <;> iassumption
  iintro %_ ⟨HO, Hcs2⟩
  iapply (andThen d (wait77 (cargo J) K d (fun k => .inl (0, k)) (fun k => .inl (1, k)) (fun k => semAt cc0_scratch8 0 k) (fun k => semAt cc0_scratch8 1 k)
    (fun _ => rfl) (fun _ => rfl) (fun _ => ownK kA d) (fun k => toK kS d k) (fun _ => ownK vA d) (fun k => toK vS d k) _ _ _ _ NK
    (fun _ => rfl) (fun _ => rfl) (fun _ => rfl) (fun _ => rfl) 3 _ (Above.rcv d 3 (by decide) 0) (by decide) (by decide)))
  isplitl [HO Hcs0 Hps0 Hcs1 Hps1]
  · isplitr; · iexact HR
    isplitl [HO]; · iexact HO
    isplitl [Hcs0 Hps0]
    · isplitl [Hcs0]; · iexact Hcs0
      iexact Hps0
    isplitl [Hcs1]; · iexact Hcs1
    iexact Hps1
  iintro %_ ⟨HO, ⟨Zs0, HkT⟩, ⟨Zs1, HvT⟩⟩
  ihave HkS := (freeK_join d kS) $$ [HkS HkT]
  · isplitl [HkS]; · iexact HkS
    iexact HkT
  ihave HvS := (freeK_join d vS) $$ [HvS HvT]
  · isplitl [HvS]; · iexact HvS
    iexact HvT
  iapply (andThen d (wait_step (cargo J) K d (.inr (.inr 2)) (semLoc cc0_scratch10 2) rfl (ownR mB d) (ownR rB d) _ _ rfl 3 _
    (Above.rcv d 3 (by decide) 0) (by decide)))
  isplitl [HO Hc2 Hp2]
  · isplitr; · iexact HR
    isplitl [HO]; · iexact HO
    isplitl [Hc2]; · iexact Hc2
    iexact Hp2
  iintro %_ ⟨HO, Z2, Hq⟩
  ihave Hq := (Entails.of_eq (show pay (cargo J) d (loc 2) 0 = iprop(own d (sR rB d) (mine J d d) ∗ free d (sR mB d)) from rfl)) $$ Hq
  icases Hq with ⟨HrB, HmB⟩
  iapply (andThen d (wait7 (cargo J) K d (fun k => .inr (.inl (2, k))) (fun k => semAt cc0_scratch9 2 k)
    (fun _ => rfl) (fun k => toR mB d k) (fun _ => ownR rB d) _ _ NR (fun _ => rfl) (fun _ => rfl) 3 _ (Above.rcv d 3 (by decide) 0) (by decide)))
  isplitl [HO Hcr2 Hpr2]
  · isplitr; · iexact HR
    isplitl [HO]; · iexact HO
    isplitl [Hcr2]; · iexact Hcr2
    iexact Hpr2
  iintro %_ ⟨HO, Zr2, HrN⟩
  ihave HrB := (mine_join J d) $$ [HrB HrN]
  · isplitl [HrB]; · iexact HrB
    iexact HrN
  -- the summed block, kept and sent
  iapply (andThen d (load_all d rB ![0, 0, 0] (by decide) _ (gatherR fun s => mine J s d) _))
  isplitl [HrB]; · iexact HrB
  iintro %x5 ⟨%hx5, HrB⟩
  subst hx5
  icases HaS with ⟨%A0, HaS⟩
  iapply (andThen d (load_all d aS ![0, 0] (by decide) _ A0 _))
  isplitl [HaS]; · iexact HaS
  iintro %x6 ⟨-, HaS⟩
  iapply (andThen d (store_all d aS ![0, 0] (by decide) _ A0 (summed J d) _ _))
  isplitl [HaS]; · iexact HaS
  iintro %_ HaS
  ihave HaS := (Entails.of_eq (share_out d (summed J d))) $$ HaS
  icases HaS with ⟨HaS, HaT⟩
  iapply (andThen d (hereA_step (cargo J) K d aS aB (Memref.isWhole_whole _) (Memref.isWhole_whole _) (summed J d) (BI.Entails.refl _)))
  isplitl [HaS HaB Ht3]
  · isplitr; · iexact HR
    isplitl [HaS]; · iexact HaS
    isplitl [HaB] <;> iassumption
  iintro %_ Hc3
  iapply (andThen d (sendA_loop J K d (Memref.isWhole_whole _) (Memref.isWhole_whole _)))
  isplitl [HO HaT HaN Hs3 Hr3]
  · isplitr; · iexact HR
    isplitl [HO]; · iexact HO
    isplitl [HaT]; · iexact HaT
    isplitl [HaN]; · iexact HaN
    isplitl [Hs3] <;> iassumption
  iintro %_ ⟨HO, Hcs3⟩
  iapply (andThen d (wait7 (cargo J) K d (fun k => .inl (2, k)) (fun k => semAt cc0_scratch8 2 k)
    (fun _ => rfl) (fun _ => ownR rB d) (fun k => toR mB d k) _ _ NR (fun _ => rfl) (fun _ => rfl) 4 _ (Above.zero 4) (by decide)))
  isplitl [HO Hcs2 Hps2]
  · isplitr; · iexact HR
    isplitl [HO]; · iexact HO
    isplitl [Hcs2]; · iexact Hcs2
    iexact Hps2
  iintro %_ ⟨HO, Zs2, HmT⟩
  ihave HmB := (freeR_join d mB) $$ [HmB HmT]
  · isplitl [HmB]; · iexact HmB
    iexact HmT
  iapply (andThen d (wait_step (cargo J) K d (.inr (.inr 3)) (semLoc cc0_scratch10 3) rfl aS (ownR aB d) _ _ rfl 4 _ (Above.zero 4) (by decide)))
  isplitl [HO Hc3 Hp3]
  · isplitr; · iexact HR
    isplitl [HO]; · iexact HO
    isplitl [Hc3]; · iexact Hc3
    iexact Hp3
  iintro %_ ⟨HO, Z3, Hq⟩
  ihave Hq := (Entails.of_eq (show pay (cargo J) d (loc 3) 0 = iprop(own d (sR aB d) (summed J d) ∗ part d aS rest (summed J d)) from rfl)) $$ Hq
  icases Hq with ⟨HaB, HaS⟩
  iapply (andThen d (wait7 (cargo J) K d (fun k => .inr (.inl (3, k))) (fun k => semAt cc0_scratch9 3 k)
    (fun _ => rfl) (fun _ => aS) (fun _ => ownR aB d) _ _ NR (fun _ => rfl) (fun _ => rfl) 4 _ (Above.zero 4) (by decide)))
  isplitl [HO Hcr3 Hpr3]
  · isplitr; · iexact HR
    isplitl [HO]; · iexact HO
    isplitl [Hcr3]; · iexact Hcr3
    iexact Hpr3
  iintro %_ ⟨HO, Zr3, HaN⟩
  ihave HaB := (summed_join J d) $$ [HaB HaN]
  · isplitl [HaB]; · iexact HaB
    iexact HaN
  -- the output
  iapply (andThen d (getBlock_step d aB 0 (gatherR (summed J))))
  isplitl [HaB]; · iexact HaB
  iintro %a0 ⟨%ha0, HaB⟩
  iapply (andThen d (getBlock_step d aB 1 (gatherR (summed J))))
  isplitl [HaB]; · iexact HaB
  iintro %a1 ⟨%ha1, HaB⟩
  iapply (andThen d (getBlock_step d aB 2 (gatherR (summed J))))
  isplitl [HaB]; · iexact HaB
  iintro %a2 ⟨%ha2, HaB⟩
  iapply (andThen d (getBlock_step d aB 3 (gatherR (summed J))))
  isplitl [HaB]; · iexact HaB
  iintro %a3 ⟨%ha3, HaB⟩
  iapply (andThen d (getBlock_step d aB 4 (gatherR (summed J))))
  isplitl [HaB]; · iexact HaB
  iintro %a4 ⟨%ha4, HaB⟩
  iapply (andThen d (getBlock_step d aB 5 (gatherR (summed J))))
  isplitl [HaB]; · iexact HaB
  iintro %a5 ⟨%ha5, HaB⟩
  iapply (andThen d (getBlock_step d aB 6 (gatherR (summed J))))
  isplitl [HaB]; · iexact HaB
  iintro %a6 ⟨%ha6, HaB⟩
  iapply (andThen d (getBlock_step d aB 7 (gatherR (summed J))))
  isplitl [HaB]; · iexact HaB
  iintro %a7 ⟨%ha7, HaB⟩
  icases HgO with ⟨%G0, HgO⟩
  iapply (andThen d (load_all d gO ![0, 0, 0] (by decide) _ G0 _))
  isplitl [HgO]; · iexact HgO
  iintro %x7 ⟨-, HgO⟩
  iapply (andThen d (store_all d gO ![0, 0, 0] (by decide) _ G0 (joined ![a0, a1, a2, a3, a4, a5, a6, a7]) _ _))
  isplitl [HgO]; · iexact HgO
  iintro %_ HgO
  rw [joined_blocks J ha0 ha1 ha2 ha3 ha4 ha5 ha6 ha7]
  iapply (lastly d (wait7 (cargo J) K d (fun k => .inl (3, k)) (fun k => semAt cc0_scratch8 3 k)
    (fun _ => rfl) (fun _ => ownR aB d) (fun _ => aS) _ _ NR (fun _ => rfl) (fun _ => rfl) 4 _ (Above.zero 4) (by decide)))
  isplitl [HO Hcs3 Hps3]
  · isplitr; · iexact HR
    isplitl [HO]; · iexact HO
    isplitl [Hcs3]; · iexact Hcs3
    iexact Hps3
  iintro %_ ⟨HO, Zs3, HaT⟩
  ihave HaS := (Entails.of_eq (share_out d (summed J d)).symm) $$ [HaS HaT]
  · isplitl [HaS]; · iexact HaS
    iexact HaT
  ihave HkA := (free_of d kA _) $$ HkA
  ihave HvA := (free_of d vA _) $$ HvA
  ihave HrB := (free_of d rB _) $$ HrB
  ihave HaB := (free_of d aB _) $$ HaB
  ihave HaS := (free_of d aS _) $$ HaS
  unfold after allDone rowEnd scratch
  isplitl [HO]; · iexact HO
  isplitl [Zb Z0 Z1 Z2 Z3 Zs0 Zs1 Zs2 Zs3 Zr0 Zr1 Zr2 Zr3]
  · isplitl [Zb]; · iexact Zb
    isplitl [Zs0 Zs1 Zs2 Zs3 Zr0 Zr1 Zr2 Zr3]
    · isplitl [Zs0 Zr0]; · isplitl [Zs0] <;> iassumption
      isplitl [Zs1 Zr1]; · isplitl [Zs1] <;> iassumption
      isplitl [Zs2 Zr2]; · isplitl [Zs2] <;> iassumption
      isplitl [Zs3] <;> iassumption
    isplitl [Z0]; · iexact Z0
    isplitl [Z1]; · iexact Z1
    isplitl [Z2] <;> iassumption
  isplitl [HkS HvS HkA HvA HmB HrB HaS HaB]
  · isplitl [HkS]; · iexact HkS
    isplitl [HvS]; · iexact HvS
    isplitl [HkA]; · iexact HkA
    isplitl [HvA]; · iexact HvA
    isplitl [HmB]; · iexact HmB
    isplitl [HrB]; · iexact HrB
    isplitl [HaS] <;> iassumption
  isplitl [HgX]; · iexact HgX
  isplitl [HgWq]; · iexact HgWq
  isplitl [HgK]; · iexact HgK
  isplitl [HgV]; · iexact HgV
  isplitl [HgWo] <;> iassumption

end Cert.KernelIdeal.Mesh

end
-- ==== Proof.KernelIdeal.Deal.lean ====
/-
  The protocol's ghost state at the launch: minted for all the devices, its tokens dealt to the devices that pay
  with them, and the launch's credits read off what the devices owe.
-/
module

public import proofs.«01_k».proof.Proof.KernelIdeal.Body

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and tokens -/

def cellE : Dev nD × Cel ↪ GSem nD τ sig where
  toFun a := cell a.1 a.2
  inj' := fun ⟨c, x⟩ ⟨c', x'⟩ h => by
    obtain rfl : c = c' := congrArg (fun g : GSem nD τ sig => g.1.1) h
    obtain rfl : x = x' := semOf_inj (congrArg Prod.snd h)
    rfl
def allCells : Finset (GSem nD τ sig) := Finset.univ.map cellE

/-- A device's duty tokens, as minted: seven of its barrier, one of each of its other semaphores. -/
def tokE : Dev nD × (Fin 7 ⊕ Tcel) ↪ GSem nD τ sig × ℕ × Fin 7 where
  toFun a := match a.2 with
    | .inl k => (cell a.1 bar, 0, k)
    | .inr x => (cell a.1 (.inr x), 0, 0)
  inj' := fun ⟨c, j⟩ ⟨c', j'⟩ h => by
    rcases j with k | x <;> rcases j' with k' | x'
    · obtain rfl : c = c' := congrArg (fun g : GSem nD τ sig × ℕ × Fin 7 => g.1.1.1) h
      obtain rfl : k = k' := congrArg (fun g : GSem nD τ sig × ℕ × Fin 7 => g.2.2) h
      rfl
    · exact absurd (semOf_inj (a₁ := bar) (a₂ := .inr x') (congrArg (fun g : GSem nD τ sig × ℕ × Fin 7 => g.1.2) h)) (fun e => by cases e)
    · exact absurd (semOf_inj (a₁ := .inr x) (a₂ := bar) (congrArg (fun g : GSem nD τ sig × ℕ × Fin 7 => g.1.2) h)) (fun e => by cases e)
    · obtain rfl : c = c' := congrArg (fun g : GSem nD τ sig × ℕ × Fin 7 => g.1.1.1) h
      have e := semOf_inj (a₁ := .inr x) (a₂ := .inr x') (congrArg (fun g : GSem nD τ sig × ℕ × Fin 7 => g.1.2) h)
      cases e; rfl
def allToks : Finset (GSem nD τ sig × ℕ × Fin 7) := Finset.univ.map tokE

/-- The tokens of device `c`'s own semaphores. -/
def minted (c : Dev nD) : sProp 𝕄 := iprop(all7 (fun k => tk c bar k) ∗ bigSep Finset.univ fun x : Tcel => tk c (.inr x) 0)

/-- What the launch makes for device `c`. -/
def given₀ (Y : Cargo F) (c : Dev nD) : sProp 𝕄 :=
  iprop((bigSep Finset.univ fun x : Cel => roundState ER (Rd Y) (cell c x) 0)
    ∗ (bigSep Finset.univ fun x : Cel => iprop(pos c x ∗ reached ER (cell c x) 0)) ∗ minted c)

theorem by_cell (Φ : GSem nD τ sig → sProp 𝕄) : bigSep allCells Φ = bigSep Finset.univ fun c : Dev nD => bigSep Finset.univ fun x : Cel => Φ (cell c x) := by
  unfold allCells; rw [bigSep_map, bigSep_univ_prod]; rfl
theorem by_tok :
    (bigSep allToks fun t => (dutyTok ER t.1 t.2.1 t.2.2 : sProp 𝕄)) = bigSep Finset.univ fun c : Dev nD => minted c := by
  unfold allToks; rw [bigSep_map, bigSep_univ_prod]
  exact bigSep_congr fun c _ => by rw [bigSep_univ_sum]; rfl

/-- The protocol's part of the launch element makes every device's share. -/
theorem mint (Y : Cargo F) : BI.own (ER (initOf allCells allToks)) ⊢ (|==> bigSep Finset.univ (given₀ Y) : sProp 𝕄) := by
  iintro H
  imod (Rounds.fund ER (Rd Y) allCells allToks) $$ H with ⟨Hst, Hre, Hat, Htk⟩
  imodintro
  ihave Hst := (Entails.of_eq (by_cell fun g => roundState ER (Rd Y) g 0)) $$ Hst
  ihave Hre := (Entails.of_eq (by_cell fun g => reached ER g 0)) $$ Hre
  ihave Hat := (Entails.of_eq (by_cell fun g => atPos ER g 0 ∅ 0)) $$ Hat
  ihave Htk := (Entails.of_eq by_tok) $$ Htk
  unfold given₀
  simp only [bigSep_sep']
  isplitl [Hst]; · iexact Hst
  isplitl [Hat Hre]
  · isplitl [Hat] <;> iassumption
  iexact Htk

/-! ## The kernel's semaphores at zero -/

/-- The scoped semaphores of the kernel. -/
def osem : Tcel → SemLoc sig := fun x => semOf (.inr x)

theorem osem_scoped : ∀ x : Tcel, (osem x).isScoped .tc = true := by decide +kernel
theorem number_osem : ∀ x : Tcel, 6 ≤ number (osem x) := by decide +kernel
theorem number_stage : ∀ (w : Fin cfg0.W) (s : Fin (cfg0.spec w).nbuf), number (.dma ((cfg0.spec w).sem s)) < 6 := by decide +kernel
theorem osem_facts : Pipeline.OwnSemFacts cfg0.spec osem :=
  ⟨osem_scoped, fun _ _ h => Sum.inr_injective (semOf_inj h), fun x w s h => absurd (number_osem x) (by rw [h]; exact Nat.not_le.mpr (number_stage w s))⟩

/-- Staging semaphores are none of the protocol's. -/
theorem stage_none (w : Fin cfg0.W) (s : Fin (cfg0.spec w).nbuf) : celOf (.dma ((cfg0.spec w).sem s)) = none :=
  celOf_none _ fun x h => by
    rcases x with ⟨⟩ | x
    · cases h
    · exact osem_facts.disj x w s h

theorem unscoped_bar (c : Dev nD) : (unscopedSems0 c : sProp 𝕄) = done c bar := by
  unfold unscopedSems0; rw [bigSep_eq_bigSepL_of_eq [SemLoc.reg barS] (by decide) (by decide)]; rfl

theorem swap (P Q : sProp 𝕄) : iprop(P ∗ Q) = iprop(Q ∗ P) :=
  BI.Entails.antisymm
    (show iprop(P ∗ Q) ⊢ iprop(Q ∗ P) by iintro ⟨H, H'⟩; isplitl [H'] <;> iassumption)
    (show iprop(Q ∗ P) ⊢ iprop(P ∗ Q) by iintro ⟨H, H'⟩; isplitl [H'] <;> iassumption)

/-- All of a device's semaphores of the protocol at zero: the barrier's and the kernel's own. -/
theorem zeros (c : Dev nD) :
    iprop(Pipeline.ownSems0 (Ix := Unit) (Name := ℕ) (U := UU) (Lvl := ℕ) (Val := Elt F) (τ := τ) osem c ∗ unscopedSems0 c)
      = (bigSep Finset.univ fun x : Cel => done c x : sProp 𝕄) := by
  rw [unscoped_bar, bigSep_univ_sum, show (bigSep Finset.univ fun u : Unit => done c (.inl u) : sProp 𝕄) = done c bar from bigSep_singleton]
  exact swap _ _

/-! ## The invariants, and the tokens dealt around -/

/-- The launch's share of a device, its semaphores now under the protocol. -/
theorem put_in_force (Y : Cargo F) (c : Dev nD) :
    iprop(Pipeline.ownSems0 (Ix := Unit) (Name := ℕ) (U := UU) (Lvl := ℕ) (Val := Elt F) (τ := τ) osem c ∗ unscopedSems0 c ∗ given₀ Y c)
      ⊢ |={Set.univ}=> iprop((bigSep Finset.univ fun x : Cel => iprop(∃ κ : ℕ, cellInv ER (Rd Y) κ (cell c x)))
          ∗ (bigSep Finset.univ fun x : Cel => iprop(pos c x ∗ reached ER (cell c x) 0)) ∗ minted c) := by
  unfold given₀
  iintro ⟨Ho, Hu, Hst, Hat, Htk⟩
  ihave Hz := (Entails.of_eq (zeros (F := F) c)) $$ [Ho Hu]
  · isplitl [Ho] <;> iassumption
  have halloc : iprop((bigSep Finset.univ fun x : Cel => done c x) ∗ bigSep Finset.univ fun x : Cel => roundState ER (Rd Y) (cell c x) 0)
      ⊢ (|={Set.univ}=> bigSep Finset.univ fun x : Cel => iprop(∃ κ : ℕ, cellInv ER (Rd Y) κ (cell c x)) : sProp 𝕄) := by
    rw [← bigSep_sep']
    exact (bigSep_mono fun x _ => (Rounds.body_intro ER (Rd Y) (cell c x)).trans inv_alloc).trans (bigSep_fupd _ _)
  imod halloc $$ [Hz Hst] with Hinv
  · isplitl [Hz] <;> iassumption
  imodintro
  isplitl [Hinv]; · iexact Hinv
  isplitl [Hat] <;> iassumption

/-- Every semaphore's protocol is in force and at its first round. -/
def inForce (Y : Cargo F) (K : Dev nD × Cel → ℕ) : sProp 𝕄 :=
  iprop((bigSep Finset.univ fun a : Dev nD × Cel => cellInv ER (Rd Y) (K a) (cell a.1 a.2))
    ∗ bigSep Finset.univ fun a : Dev nD × Cel => reached ER (cell a.1 a.2) 0)
instance inForce_persistent (Y : Cargo F) (K : Dev nD × Cel → ℕ) : BI.Persistent (inForce Y K) := by unfold inForce; infer_instance

/-- The tokens device `c` pays with, and where it stands. -/
def paying (c : Dev nD) : sProp 𝕄 :=
  iprop(all7 (fun k => tk (plus c k) bar k)
    ∗ ((bigSep Finset.univ fun rk : Fin 4 × Fin 7 => tk c (snd rk.1 rk.2) 0)
      ∗ (bigSep Finset.univ fun rk : Fin 4 × Fin 7 => tk (plus c rk.2) (rcv rk.1 rk.2) 0) ∗ bigSep Finset.univ fun l : Fin 4 => tk c (loc l) 0))
def standing (c : Dev nD) : sProp 𝕄 :=
  iprop(pos c bar ∗ ((bigSep Finset.univ fun rk : Fin 4 × Fin 7 => pos c (snd rk.1 rk.2))
      ∗ (bigSep Finset.univ fun rk : Fin 4 × Fin 7 => pos c (rcv rk.1 rk.2)) ∗ bigSep Finset.univ fun l : Fin 4 => pos c (loc l)))

/-- Stepping every device `k + 1` places on, `k` kept. -/
def stepE : Dev nD × Fin 7 ≃ Dev nD × Fin 7 where
  toFun a := (plus a.1 a.2, a.2)
  invFun a := (minus a.1 a.2, a.2)
  left_inv a := Prod.ext (minus_plus a.1 a.2) rfl
  right_inv a := Prod.ext (plus_minus a.1 a.2) rfl

theorem around (Φ : Dev nD → Fin 7 → sProp 𝕄) :
    (bigSep Finset.univ fun c : Dev nD => all7 (Φ c)) = bigSep Finset.univ fun c : Dev nD => all7 (fun k => Φ (plus c k) k) := by
  have h := bigSep_univ_equiv stepE (fun a : Dev nD × Fin 7 => Φ a.1 a.2)
  rw [bigSep_univ_prod, bigSep_univ_prod] at h
  exact h
theorem around4 (Φ : Dev nD → Fin 4 × Fin 7 → sProp 𝕄) :
    (bigSep Finset.univ fun c : Dev nD => bigSep Finset.univ (Φ c)) = bigSep Finset.univ fun c : Dev nD => bigSep Finset.univ fun rk : Fin 4 × Fin 7 => Φ (plus c rk.2) rk := by
  simp only [bigSep_univ_prod]
  rw [bigSep_univ_comm, bigSep_univ_comm (α := Dev nD)]
  exact bigSep_congr fun r _ => around fun c k => Φ c (r, k)

theorem minted_eq (c : Dev nD) : (minted c : sProp 𝕄)
    = iprop(all7 (fun k => tk c bar k) ∗ ((bigSep Finset.univ fun rk : Fin 4 × Fin 7 => tk c (snd rk.1 rk.2) 0)
      ∗ (bigSep Finset.univ fun rk : Fin 4 × Fin 7 => tk c (rcv rk.1 rk.2) 0) ∗ bigSep Finset.univ fun l : Fin 4 => tk c (loc l) 0)) := by
  unfold minted; rw [bigSep_univ_sum, bigSep_univ_sum]; rfl
theorem standing_eq (c : Dev nD) : (bigSep Finset.univ fun x : Cel => pos c x : sProp 𝕄) = standing c := by
  unfold standing
  rw [bigSep_univ_sum, bigSep_univ_sum, bigSep_univ_sum, show (bigSep Finset.univ fun u : Unit => pos c (.inl u) : sProp 𝕄) = pos c bar from bigSep_singleton]
  rfl

/-- Every token goes to the device that pays with it. -/
theorem deal : (bigSep Finset.univ fun c : Dev nD => (minted c : sProp 𝕄)) = bigSep Finset.univ fun c : Dev nD => paying c := by
  unfold paying
  simp only [minted_eq, bigSep_sep']
  rw [around (fun c k => tk c bar k), around4 (fun c rk => tk c (rcv rk.1 rk.2) 0)]

/-- A persistent assertion is there for every member. -/
theorem everywhere {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ := by
  refine (sep_mono_left (BI.bigSep_of_persistent S R)).trans ?_
  rw [← bigSep_sep']
  exact bigSep_mono fun i _ => h i

/-- A device's part of the ghost state at the launch. -/
def dealt (Y : Cargo F) (c : Dev nD) : sProp 𝕄 := iprop(∃ K, inForce Y K ∗ paying c ∗ standing c)

theorem regroup (Y : Cargo F) :
    (bigSep Finset.univ fun c : Dev nD => iprop((bigSep Finset.univ fun x : Cel => iprop(∃ κ : ℕ, cellInv ER (Rd Y) κ (cell c x)))
          ∗ (bigSep Finset.univ fun x : Cel => iprop(pos c x ∗ reached ER (cell c x) 0)) ∗ minted c) : sProp 𝕄)
      ⊢ bigSep Finset.univ (dealt Y) := by
  simp only [bigSep_sep', deal, standing_eq]
  rw [← bigSep_univ_prod (fun a : Dev nD × Cel => iprop(∃ κ : ℕ, cellInv ER (Rd Y) κ (cell a.1 a.2))),
    ← bigSep_univ_prod (fun a : Dev nD × Cel => (reached ER (cell a.1 a.2) 0 : sProp 𝕄))]
  iintro ⟨Hi, ⟨Hat, #Hre⟩, Htk⟩
  ihave Hk := (BI.bigSep_exists_pi Finset.univ (fun (a : Dev nD × Cel) (κ : ℕ) => (cellInv ER (Rd Y) κ (cell a.1 a.2) : sProp 𝕄))) $$ Hi
  icases Hk with ⟨%K, #Hi⟩
  iapply (everywhere (R := inForce Y K) (Φ := fun c => iprop(paying c ∗ standing c)) (Ψ := dealt Y) fun c => by
    unfold dealt; iintro H; iexists K; iexact H)
  isplitr
  · unfold inForce; isplitl; · iexact Hi
    iexact Hre
  rw [bigSep_sep']
  isplitl [Htk] <;> iassumption

/-- The launch's global step. -/
theorem setUp (Y : Cargo F) :
    (bigSep Finset.univ fun c => iprop(Pipeline.ownSems0 (Ix := Unit) (Name := ℕ) (U := UU) (Lvl := ℕ) (Val := Elt F) (τ := τ) osem c ∗ unscopedSems0 c ∗ given₀ Y c) : sProp 𝕄)
      ⊢ |={Set.univ}=> bigSep Finset.univ (dealt Y) :=
  ((bigSep_mono fun c _ => put_in_force Y c).trans (bigSep_fupd _ _)).trans (BI.fupd_mono (regroup Y))

/-! ## Credits -/

theorem cell_eq {c c' : Dev nD} {x x' : Cel} (h : cell c x = cell c' x') : c = c' ∧ x = x' :=
  ⟨congrArg (fun g : GSem nD τ sig => g.1.1) h, semOf_inj (congrArg Prod.snd h)⟩

/-- What a sum of dues says of a cell. -/
theorem sum_at (f : Fin 7 → Dues) (g : GSem nD τ sig) : (∑ k, f k) g () = ∑ k, f k g () := by
  rw [Finset.sum_apply, Finsupp.finset_sum_apply]
theorem due_at (c d : Dev nD) (x y : Cel) (n : ℕ) : (tallyAt (cell d y) () n : Dues) (cell c x) () = if d = c ∧ y = x then n else 0 := by
  rw [tallyAt_apply]
  by_cases h : d = c ∧ y = x
  · obtain ⟨rfl, rfl⟩ := h; rw [if_pos ⟨rfl, rfl⟩, if_pos ⟨rfl, rfl⟩]
  · rw [if_neg h, if_neg fun ⟨e, _⟩ => h ⟨(cell_eq e).1.symm, (cell_eq e).2.symm⟩]

theorem O₀_at (d c : Dev nD) (x : Cel) : O₀ d (cell c x) ()
    = (∑ k, if plus d k = c ∧ bar = x then 1 else 0) + ((∑ k, ((if plus d k = c ∧ rcv 0 k = x then worth 0 else 0) + if plus d k = c ∧ rcv 1 k = x then worth 1 else 0))
      + ((∑ k, if plus d k = c ∧ rcv 2 k = x then worth 2 else 0) + ∑ k, if plus d k = c ∧ rcv 3 k = x then worth 3 else 0)) := by
  unfold O₀ O₁
  rw [dues_all, dues_all, dues_all, dues_all]
  simp only [Pi.add_apply, Finsupp.add_apply, sum_at]
  simp only [sigDue, kvDue, rcvDue, Pi.add_apply, Finsupp.add_apply, due_at]

theorem one_each : ∀ c : Dev nD, ∑ d : Dev nD, ∑ k : Fin 7, (if plus d k = c then 1 else 0) = 7 := by decide +kernel
theorem owed_bar (c : Dev nD) : ∑ d : Dev nD, O₀ d (cell c bar) () = 7 := by
  rw [← one_each c]
  refine Finset.sum_congr rfl fun d _ => ?_
  rw [O₀_at]
  simp
theorem owed_rcv (c : Dev nD) (r : Fin 4) (k : Fin 7) : ∑ d : Dev nD, O₀ d (cell c (rcv r k)) () = worth r := by
  have h : ∀ d : Dev nD, O₀ d (cell c (rcv r k)) () = if d = minus c k then worth r else 0 := fun d => by
    rw [O₀_at]
    have e : (plus d k = c) = (d = minus c k) := propext ⟨fun h => by rw [← h, minus_plus], fun h => by rw [h, plus_minus]⟩
    have q : ∀ (r' : Fin 4) (k' : Fin 7), (plus d k' = c ∧ rcv r' k' = rcv r k) = (k' = k ∧ r' = r ∧ d = minus c k) := fun r' k' => propext
      ⟨fun h => by obtain ⟨h1, h2⟩ := h; cases h2; exact ⟨rfl, rfl, e.mp h1⟩, fun h => by obtain ⟨rfl, rfl, h3⟩ := h; exact ⟨e.mpr h3, rfl⟩⟩
    simp only [q, Finset.sum_add_distrib, ite_and, Finset.sum_ite_eq', Finset.mem_univ, if_true]
    fin_cases r <;> simp
  rw [Finset.sum_congr rfl fun d _ => h d, Finset.sum_ite_eq' Finset.univ (minus c k) fun _ => worth r, if_pos (Finset.mem_univ _)]

theorem credit_at (c : Dev nD) (x : Cel) (n : ℕ) (h : ∑ d : Dev nD, O₀ d (cell c x) () = n) :
    tallyOn (cell c x) (launchCredit (Pipeline.owing O₀) 0 (cell c x)) = (tallyAt (cell c x) () n : Dues) := by
  unfold tallyAt
  refine congrArg _ (Finsupp.ext fun u => ?_)
  cases u
  rw [Pipeline.launchCredit_owing, Finsupp.single_eq_same, h]

/-- A device's credits: its barrier's and its landings'. -/
theorem credits (c : Dev nD) :
    (Pipeline.launchCred O₀ c : sProp 𝕄) ⊢ iprop(crd c bar 7 ∗ bigSep Finset.univ fun rk : Fin 4 × Fin 7 => crd c (rcv rk.1 rk.2) (worth rk.1)) := by
  unfold Pipeline.launchCred
  refine (bigSep_subset (Finset.subset_univ (Finset.univ.map ⟨semOf, semOf_inj⟩))).trans ?_
  have h (x : Cel) (n : ℕ) (hn : ∑ d : Dev nD, O₀ d (cell c x) () = n) :
      (cred (tallyOn (cell c x) (launchCredit (Pipeline.owing O₀) 0 (cell c x))) : sProp 𝕄) = crd c x n := congrArg _ (credit_at c x n hn)
  rw [bigSep_map]
  show (bigSep Finset.univ fun x : Cel => cred (tallyOn (cell c x) (launchCredit (Pipeline.owing O₀) 0 (cell c x))) : sProp 𝕄) ⊢ _
  rw [bigSep_univ_sum, bigSep_univ_sum, bigSep_univ_sum,
    show (bigSep Finset.univ fun u : Unit => cred (tallyOn (cell c (.inl u)) (launchCredit (Pipeline.owing O₀) 0 (cell c (.inl u)))) : sProp 𝕄)
      = crd c bar 7 from bigSep_singleton.trans (h bar 7 (owed_bar c)),
    show (bigSep Finset.univ fun rk : Fin 4 × Fin 7 => cred (tallyOn (cell c (.inr (.inr (.inl rk)))) (launchCredit (Pipeline.owing O₀) 0 (cell c (.inr (.inr (.inl rk)))))) : sProp 𝕄)
      = bigSep Finset.univ fun rk : Fin 4 × Fin 7 => crd c (rcv rk.1 rk.2) (worth rk.1) from
      bigSep_congr fun rk _ => h (rcv rk.1 rk.2) _ (owed_rcv c rk.1 rk.2)]
  show iprop((_ : sProp 𝕄) ∗ _ ∗ _ ∗ _) ⊢ _
  iintro ⟨H, -, H', -⟩
  isplitl [H] <;> iassumption

/-! ## The device's part, in the order the body uses it -/

theorem four (Φ : Fin 4 → sProp 𝕄) : bigSep Finset.univ Φ = iprop(Φ 0 ∗ Φ 1 ∗ Φ 2 ∗ Φ 3) := bigSep_univ_eq_bigSepL [0, 1, 2, 3] (by decide) (by decide) Φ
theorem rows (Φ : Fin 4 → Fin 7 → sProp 𝕄) : (bigSep Finset.univ fun rk : Fin 4 × Fin 7 => Φ rk.1 rk.2) = iprop(all7 (Φ 0) ∗ all7 (Φ 1) ∗ all7 (Φ 2) ∗ all7 (Φ 3)) := by
  rw [bigSep_univ_prod, four]

theorem ghost_intro (c : Dev nD) :
    iprop(paying c ∗ standing c ∗ crd c bar 7 ∗ bigSep Finset.univ fun rk : Fin 4 × Fin 7 => crd c (rcv rk.1 rk.2) (worth rk.1)) ⊢ (ghost c : sProp 𝕄) := by
  unfold paying standing ghost rowStart locStart
  rw [rows fun r k => tk c (snd r k) 0, rows fun r k => tk (plus c k) (rcv r k) 0, rows fun r k => pos c (snd r k), rows fun r k => pos c (rcv r k),
    rows fun r k => crd c (rcv r k) (worth r), four, four]
  iintro ⟨⟨Htb, ⟨Ts0, Ts1, Ts2, Ts3⟩, ⟨Tr0, Tr1, Tr2, Tr3⟩, Tl0, Tl1, Tl2, Tl3⟩, ⟨Hpb, ⟨Ps0, Ps1, Ps2, Ps3⟩, ⟨Pr0, Pr1, Pr2, Pr3⟩, Pl0, Pl1, Pl2, Pl3⟩, Hcb, C0, C1, C2, C3⟩
  isplitl [Htb Hpb Hcb]
  · isplitl [Htb]; · iexact Htb
    isplitl [Hpb] <;> iassumption
  isplitl [Ts0 Ts1 Ts2 Ts3 Tr0 Tr1 Tr2 Tr3 Ps0 Ps1 Ps2 Ps3 Pr0 Pr1 Pr2 Pr3 C0 C1 C2 C3]
  · isplitl [Ts0 Tr0 Ps0 Pr0 C0]
    · isplitl [Ts0 Tr0]; · isplitl [Ts0] <;> iassumption
      isplitl [Ps0]; · iexact Ps0
      isplitl [Pr0] <;> iassumption
    isplitl [Ts1 Tr1 Ps1 Pr1 C1]
    · isplitl [Ts1 Tr1]; · isplitl [Ts1] <;> iassumption
      isplitl [Ps1]; · iexact Ps1
      isplitl [Pr1] <;> iassumption
    isplitl [Ts2 Tr2 Ps2 Pr2 C2]
    · isplitl [Ts2 Tr2]; · isplitl [Ts2] <;> iassumption
      isplitl [Ps2]; · iexact Ps2
      isplitl [Pr2] <;> iassumption
    isplitl [Ts3 Tr3]; · isplitl [Ts3] <;> iassumption
    isplitl [Ps3]; · iexact Ps3
    isplitl [Pr3] <;> iassumption
  isplitl [Tl0 Pl0]; · isplitl [Tl0] <;> iassumption
  isplitl [Tl1 Pl1]; · isplitl [Tl1] <;> iassumption
  isplitl [Tl2 Pl2]; · isplitl [Tl2] <;> iassumption
  isplitl [Tl3] <;> iassumption

/-- Every semaphore of the kernel back at zero, gathered for the launch. -/
theorem done_elim (c : Dev nD) : (allDone c : sProp 𝕄)
    ⊢ iprop(unscopedSems0 c ∗ Pipeline.ownSems0 (Ix := Unit) (Name := ℕ) (U := UU) (Lvl := ℕ) (Val := Elt F) (τ := τ) osem c) := by
  rw [unscoped_bar, show (Pipeline.ownSems0 (Ix := Unit) (Name := ℕ) (U := UU) (Lvl := ℕ) (Val := Elt F) (τ := τ) osem c : sProp 𝕄)
    = bigSep Finset.univ fun x : Tcel => done c (.inr x) from rfl, bigSep_univ_sum, bigSep_univ_sum]
  have hs := rows fun r k => done (F := F) c (snd r k)
  have hr := rows fun r k => done (F := F) c (rcv r k)
  have hl := four fun l => done (F := F) c (loc l)
  show _ ⊢ iprop(done c bar ∗ ((bigSep Finset.univ fun rk : Fin 4 × Fin 7 => done c (snd rk.1 rk.2)) ∗ (bigSep Finset.univ fun rk : Fin 4 × Fin 7 => done c (rcv rk.1 rk.2))
    ∗ bigSep Finset.univ fun l : Fin 4 => done c (loc l)))
  rw [hs, hr, hl]
  unfold allDone rowEnd
  iintro ⟨Hb, ⟨⟨S0, R0⟩, ⟨S1, R1⟩, ⟨S2, R2⟩, S3, R3⟩, L0, L1, L2, L3⟩
  isplitl [Hb]; · iexact Hb
  isplitl [S0 S1 S2 S3]
  · isplitl [S0]; · iexact S0
    isplitl [S1]; · iexact S1
    isplitl [S2] <;> iassumption
  isplitl [R0 R1 R2 R3]
  · isplitl [R0]; · iexact R0
    isplitl [R1]; · iexact R1
    isplitl [R2] <;> iassumption
  isplitl [L0]; · iexact L0
  isplitl [L1]; · iexact L1
  isplitl [L2] <;> iassumption

end Cert.KernelIdeal.Mesh

end
-- ==== Proof.KernelIdeal.Launch.lean ====
/-
  The run of the whole mesh: every execution ends, with the inputs as they were, every counter at zero, and on
  every device the output computed from the devices' inputs.
-/
module

public import proofs.«01_k».proof.Proof.KernelIdeal.Deal
public import proofs.«01_k».proof.Proof.Gen.KernelIdeal.Launch
public import proofs.«01_k».proof.Proof.Gen.KernelIdeal.Points
public import Idealize.ShloMosaic.Lib.Pipeline.CollectiveSegs

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at the launch. -/
def atLaunch : MemSt nD τ sig (Elt F) := ⟨m, fun _ => 0, ρ⟩

/-- What the devices' argument arrays hold. -/
def inputs : Inputs F where
  x c := (win0_0.blk (0 : Fin 1)).view.read (Elt F) (m ((c : Thread nD τ).loc main_arg0))
  wq c := (win0_1.blk (0 : Fin 1)).view.read (Elt F) (m ((c : Thread nD τ).loc main_arg1))
  k c := (win0_2.blk (0 : Fin 1)).view.read (Elt F) (m ((c : Thread nD τ).loc main_arg2))
  v c := (win0_3.blk (0 : Fin 1)).view.read (Elt F) (m ((c : Thread nD τ).loc main_arg3))
  wo c := (win0_4.blk (0 : Fin 1)).view.read (Elt F) (m ((c : Thread nD τ).loc main_arg4))

/-- What a device holds of the protocol when its body starts. -/
def opening (c : Dev nD) : sProp 𝕄 := iprop(∃ K, records (cargo (inputs m)) K ∗ ghost c)

def dats (_ : Fin 1) (c : Dev nD) : Dat τ (Elt F) Unit ℕ UU ℕ cfg0 c where
  A w := (atLaunch m ρ).mem ((cfg0.win w).arr.view.loc (c : Thread nD τ))
  after w _ := match w with
    | ⟨0, _⟩ => (inputs m).x c
    | ⟨1, _⟩ => (inputs m).wq c
    | ⟨2, _⟩ => (inputs m).k c
    | ⟨3, _⟩ => (inputs m).v c
    | ⟨4, _⟩ => (inputs m).wo c
    | ⟨5, _⟩ => outcome (inputs m)
  Φ t := match t with
    | ⟨0, _⟩ => iprop(opening m c ∗ scratch c)
    | ⟨_ + 1, _⟩ => iprop(allDone c ∗ scratch c)
  q _ := fullShare
  owed t := match t with
    | ⟨0, _⟩ => O₀ c
    | ⟨_ + 1, _⟩ => 0

/-! ## The body, as the launch calls it -/

/-- A fetched window holds its array's block. -/
theorem before_eq (c : Dev nD) (w : Fin cfg0.W) (hf : (cfg0.win w).fetch t0_0 = true) (d : (cfg0.win w).block.Idx → Elt F (cfg0.win w).elt) :
    (dats m ρ 0 c).before w t0_0 d = (dats m ρ 0 c).fetched w t0_0 d := by unfold Dat.before; rw [if_pos hf]

/-- What the launch hands the body, and what it takes back. -/
def handed (c : Dev nD) : sProp 𝕄 :=
  iprop((opening m c ∗ scratch c) ∗ (dats m ρ 0 c).owesAt () t0_0.castSucc
    ∗ (∃ d, own c gX ((dats m ρ 0 c).before (0 : Fin 6) t0_0 d))
    ∗ (∃ d, own c gWq ((dats m ρ 0 c).before (1 : Fin 6) t0_0 d))
    ∗ (∃ d, own c gK ((dats m ρ 0 c).before (2 : Fin 6) t0_0 d))
    ∗ (∃ d, own c gV ((dats m ρ 0 c).before (3 : Fin 6) t0_0 d))
    ∗ (∃ d, own c gWo ((dats m ρ 0 c).before (4 : Fin 6) t0_0 d))
    ∗ (∃ d, own c gO ((dats m ρ 0 c).before (5 : Fin 6) t0_0 d)))
def returned (c : Dev nD) : sProp 𝕄 :=
  iprop((allDone c ∗ scratch c) ∗ (dats m ρ 0 c).owesAt () t0_0.succ
    ∗ own c gX ((inputs m).x c) ∗ own c gWq ((inputs m).wq c) ∗ own c gK ((inputs m).k c) ∗ own c gV ((inputs m).v c)
    ∗ own c gWo ((inputs m).wo c) ∗ own c gO (outcome (inputs m)))

/-- The body does what the launch asks. -/
theorem body_sound (c : Dev nD) :
    handed m ρ c ⊢ run c (cc0_body gX (Memref.isWhole_whole _) gWq (Memref.isWhole_whole _) gK (Memref.isWhole_whole _) gV (Memref.isWhole_whole _)
      gWo (Memref.isWhole_whole _) gO (Memref.isWhole_whole _) kS (Memref.isWhole_whole _) vS (Memref.isWhole_whole _) kA (Memref.isWhole_whole _)
      vA (Memref.isWhole_whole _) mB (Memref.isWhole_whole _) rB (Memref.isWhole_whole _) aS (Memref.isWhole_whole _) aB (Memref.isWhole_whole _)
      cc0_scratch8 cc0_scratch9 cc0_scratch10) fun _ => returned m ρ c := by
  rw [body_eq]
  unfold handed opening Dat.owesAt Pipeline.owesWithin
  iintro ⟨⟨⟨%K, HR, Hg⟩, Hs⟩, ⟨%W, %hW, HO⟩, ⟨%d0, H0⟩, ⟨%d1, H1⟩, ⟨%d2, H2⟩, ⟨%d3, H3⟩, ⟨%d4, H4⟩, ⟨%d5, H5⟩⟩
  rw [before_eq m ρ c 0 (fetch0_0 t0_0), before_eq m ρ c 1 (fetch0_1 t0_0), before_eq m ρ c 2 (fetch0_2 t0_0), before_eq m ρ c 3 (fetch0_3 t0_0),
    before_eq m ρ c 4 (fetch0_4 t0_0)]
  iapply (wp_mono _ _ _ fun _ => show after (inputs m) c ⊢ returned m ρ c from by
    unfold after returned owing Dat.owesAt Pipeline.owesWithin
    iintro ⟨⟨%W', HO⟩, Hd, Hs, H⟩
    isplitl [Hd Hs]; · isplitl [Hd] <;> iassumption
    isplitl [HO]
    · iexists W'; isplitr; · ipureintro; exact fun _ _ => Or.inl trivial
      iexact HO
    iexact H)
  iapply (body_run (inputs m) K c)
  unfold before owing
  isplitl [HR]; · iexact HR
  isplitl [HO]; · iexists W; iexact HO
  isplitl [Hg]; · iexact Hg
  isplitl [Hs]; · iexact Hs
  isplitl [H0]; · iexact H0
  isplitl [H1]; · iexact H1
  isplitl [H2]; · iexact H2
  isplitl [H3]; · iexact H3
  isplitl [H4]; · iexact H4
  iexists _; iexact H5

set_option maxRecDepth 100000 in
theorem body_obligation (c : Dev nD) : BodyObligation (dats (F := F) m ρ 0 c) (defs₀ (F := F)) 𝒱₀ () Set.univ := fun t => by
  rw [fin_N0 t, bigSep_W0, bigSep_W0]
  exact body_sound m ρ c

/-! ## The launch's side conditions -/

theorem share_full (c : Dev nD) (w : Fin cfg0.W) : (dats m ρ 0 c).share w = fullShare := by unfold Dat.share; split <;> rfl

theorem free_eq (c : Dev nD) (b : Ref sig .tc) : (iprop(∃ X, owns (Ix := Unit) (Name := ℕ) (U := UU) (Lvl := ℕ) (c : Thread nD τ) (Memref.whole b) fullShare X) : sProp 𝕄)
    = iprop(∃ f : Buf (Elt F) ((c : Thread nD τ).loc b), ((c : Thread nD τ).loc b) ↦{fullShare} f) := by
  refine BI.Entails.antisymm
    (show iprop(∃ X, owns (Ix := Unit) (Name := ℕ) (U := UU) (Lvl := ℕ) (c : Thread nD τ) (Memref.whole b) fullShare X)
      ⊢ iprop(∃ f : Buf (Elt F) ((c : Thread nD τ).loc b), ((c : Thread nD τ).loc b) ↦{fullShare} f) from ?_)
    (show iprop(∃ f : Buf (Elt F) ((c : Thread nD τ).loc b), ((c : Thread nD τ).loc b) ↦{fullShare} f)
      ⊢ iprop(∃ X, owns (Ix := Unit) (Name := ℕ) (U := UU) (Lvl := ℕ) (c : Thread nD τ) (Memref.whole b) fullShare X) from ?_)
  · iintro ⟨%X, H⟩
    ihave H := (Entails.of_eq (owns_whole_eq (c : Thread nD τ) b fullShare X)) $$ H
    icases H with ⟨%f, -, H⟩
    iexists f; iexact H
  · iintro ⟨%f, H⟩
    iexists f
    iapply (Entails.of_eq (owns_whole_eq (c : Thread nD τ) b fullShare f).symm)
    iexists f
    isplitr; · ipureintro; rfl
    iexact H

/-- The scratch buffers are what the launch sets aside. -/
theorem scratch_eq (c : Dev nD) : (scratch c : sProp 𝕄) = Pipeline.scopedRest cfg0.spec c := by
  rw [scopedRest0_eq]
  unfold scratch
  rw [← free_eq c cc0_scratch0, ← free_eq c cc0_scratch1, ← free_eq c cc0_scratch2, ← free_eq c cc0_scratch3, ← free_eq c cc0_scratch4, ← free_eq c cc0_scratch5,
    ← free_eq c cc0_scratch6, ← free_eq c cc0_scratch7]
  rfl

theorem above_start (c : Dev nD) : Above 0 (O₀ c) := by
  have low {O : Dues} (h : Above 1 O) : Above 0 O := fun g u hp => ⟨(h g u hp).1, Nat.lt_of_succ_lt (h g u hp).2⟩
  exact (Above.dues (fun k => Above.tally _ _ _ (by decide)) 0).add
    (low ((Above.kv c 0).add ((Above.rcv c 2 (by decide) 0).add (Above.rcv c 3 (by decide) 0))))

theorem waits (c : Dev nD) : (levAts L lv : sProp 𝕄) ⊢ Pipeline.cellsWaits cfgs (dats m ρ) () 0 c :=
  Pipeline.cellsWaits_intro cfgs (dats m ρ) () 0 c fun w s t =>
    mayWait c _ _ 0 (by
      rcases t with ⟨_ | _, ht⟩
      · exact above_start c
      · exact Above.zero 0) (Nat.le_of_eq (by unfold lv; rw [stage_none w s]; rfl))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt (cargo (inputs m)) c)
      ⊢ |={Set.univ}=> iprop(opening m c ∗ emp) := by
  unfold dealt opening
  iintro ⟨-, Hl, Hc, -, ⟨%K, Hf, Hp, Hs⟩⟩
  ihave Hc := (credits (F := F) c) $$ Hc
  icases Hc with ⟨Hcb, Hcr⟩
  imodintro
  isplitl
  · iexists K
    isplitl [Hl Hf]
    · unfold inForce records
      icases Hf with ⟨Hi, Hr⟩
      isplitl [Hi]; · iexact Hi
      isplitl [Hr] <;> iassumption
    iapply (ghost_intro (F := F) c)
    isplitl [Hp]; · iexact Hp
    isplitl [Hs]; · iexact Hs
    isplitl [Hcb] <;> iassumption
  · iempintro

theorem enter (c : Dev nD) :
    iprop(opening m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(opening m c ∗ scratch c) from rfl, scratch_eq]
  iintro ⟨Ho, -, Hs⟩
  isplitl [Ho] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(allDone c ∗ scratch c) from rfl, scratch_eq]
  iintro ⟨Hd, Hs⟩
  ihave Hd := (done_elim (F := F) c) $$ Hd
  icases Hd with ⟨Hu, Ho⟩
  isplitl [Hu]; · iexact Hu
  isplitl [Ho] <;> iassumption

/-! ## The run -/

def u₀ : UU := (initOf (Pipeline.cells cfgs cellOf_inj) (Pipeline.launchToks cfgs cellOf_inj), initOf allCells allToks)

/-- What a window's array holds at the end. -/
def atEnd (c : Dev nD) (w : Fin cfg0.W) : Buf (Elt F) ((cfg0.win w).arr.view.loc (c : Thread nD τ)) := (dats m ρ 0 c).arrAt w cfg0.N

set_option maxRecDepth 100000 in
/-- From any memory with zero counters, every execution ends, each window's array at the contents said and every
    counter at zero. -/
theorem run_arrays :
    θ_run defs (onTc (τ := τ) (main (F := F))) (atLaunch m ρ)
      (fun r => (∀ c : Dev nD, ∀ w : Fin cfg0.W, r.2.mem ((cfg0.win w).arr.view.loc (c : Thread nD τ)) = atEnd m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := given₀ (cargo (inputs m))) (G' := dealt (cargo (inputs m))) (u₀ := u₀)
    (hu₀ := by
      unfold u₀
      iintro H
      ihave H := (ownU_pair _ _) $$ H
      icases H with ⟨HP, HX⟩
      imod (mint (cargo (inputs m))) $$ HX with HG
      imodintro
      isplitl [HP] <;> iassumption)
    (hglob := setUp (cargo (inputs m)))
    (hA := fun _ _ => rfl) (hpf := fun _ k => k.elim0)
    (X := opening m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HS⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Mesh

end
-- ==== Proof.KernelIdeal.Result.lean ====
/-
  What the run leaves: every argument array as it was, every counter at zero, and every device's result array at
  the output computed from the devices' arguments.
-/
module

public import proofs.«01_k».proof.Proof.KernelIdeal.Launch

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The devices' argument arrays, whole. -/
def args : Inputs F where
  x c := m ((c : Thread nD τ).loc main_arg0)
  wq c := m ((c : Thread nD τ).loc main_arg1)
  k c := m ((c : Thread nD τ).loc main_arg2)
  v c := m ((c : Thread nD τ).loc main_arg3)
  wo c := m ((c : Thread nD τ).loc main_arg4)

theorem inputs_eq : inputs m = args m := by
  have h0 := fun f => Memref.read_access_unit_zero (Elt F) main_arg0 (off := fun a => win0_0.index (0 : Fin 1) a * main_arg0.ty.shape.size a) (funext fun a => by fin_cases a <;> decide) (fun a => by fin_cases a <;> decide) f
  have h1 := fun f => Memref.read_access_unit_zero (Elt F) main_arg1 (off := fun a => win0_1.index (0 : Fin 1) a * main_arg1.ty.shape.size a) (funext fun a => by fin_cases a <;> decide) (fun a => by fin_cases a <;> decide) f
  have h2 := fun f => Memref.read_access_unit_zero (Elt F) main_arg2 (off := fun a => win0_2.index (0 : Fin 1) a * main_arg2.ty.shape.size a) (funext fun a => by fin_cases a <;> decide) (fun a => by fin_cases a <;> decide) f
  have h3 := fun f => Memref.read_access_unit_zero (Elt F) main_arg3 (off := fun a => win0_3.index (0 : Fin 1) a * main_arg3.ty.shape.size a) (funext fun a => by fin_cases a <;> decide) (fun a => by fin_cases a <;> decide) f
  have h4 := fun f => Memref.read_access_unit_zero (Elt F) main_arg4 (off := fun a => win0_4.index (0 : Fin 1) a * main_arg4.ty.shape.size a) (funext fun a => by fin_cases a <;> decide) (fun a => by fin_cases a <;> decide) f
  unfold inputs args
  congr 1
  · exact funext fun c => h0 _
  · exact funext fun c => h1 _
  · exact funext fun c => h2 _
  · exact funext fun c => h3 _
  · exact funext fun c => h4 _

/-- The result array's last contents. -/
theorem out_end (c : Dev nD) : atEnd m ρ c (5 : Fin 6) = outcome (args m) := by
  have h : (win0_5.blk (0 : Fin 1)).view.read (Elt F) (atEnd m ρ c (5 : Fin 6)) = outcome (inputs m) := by
    unfold atEnd
    rw [show cfg0.N = ((0 : Fin 1) : Fin cfg0.N).val + 1 from rfl, (dats m ρ 0 c).arrAt_succ (5 : Fin 6) (0 : Fin 1), flush0_5 (0 : Fin 1), if_pos rfl]
    exact View.read_write_univ _ _
  rw [← inputs_eq]
  exact (Memref.read_access_unit_zero (Elt F) main_v1 (off := fun a => win0_5.index (0 : Fin 1) a * main_v1.ty.shape.size a)
    (funext fun a => by fin_cases a <;> decide) (fun a => by fin_cases a <;> decide) _).symm.trans h

/-- What the mesh computes: every execution ends with the arguments unchanged, the result on every device, and every
    counter at zero. -/
theorem computes :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v1) = outcome (args m)) ∧ r.2.sem = fun _ => 0) :=
  (θ_run defs _ _).mono (fun _ h => ⟨fun c =>
    ⟨⟨(h.1 c (0 : Fin 6)).trans ((dats m ρ 0 c).arrAt_in (0 : Fin 6) rfl _), (h.1 c (1 : Fin 6)).trans ((dats m ρ 0 c).arrAt_in (1 : Fin 6) rfl _),
      (h.1 c (2 : Fin 6)).trans ((dats m ρ 0 c).arrAt_in (2 : Fin 6) rfl _), (h.1 c (3 : Fin 6)).trans ((dats m ρ 0 c).arrAt_in (3 : Fin 6) rfl _),
      (h.1 c (4 : Fin 6)).trans ((dats m ρ 0 c).arrAt_in (4 : Fin 6) rfl _)⟩,
      (h.1 c (5 : Fin 6)).trans (out_end m ρ c)⟩, h.2⟩) (run_arrays (F := F) m ρ)

end Cert.KernelIdeal.Mesh

end
-- ==== Proof.Value.Attention.lean ====
/-
  The mathematics of the problem, over the extended reals and with plain indices: which keys a query sees, its scores, the
  weights these become, one head's attention, and the output of all 32 heads. Neither program occurs here.
-/
module

public import Idealize.ShloMosaic.Lib.Pointwise

@[expose] public section

noncomputable section

namespace Cert.Attention

open Idealize.ShloMosaic

/-- Whether query `i` sees key `j`, as a bit: they are at most 128 apart, or one of the two is among the first 32. -/
def seen (i : Fin 128) (j : Fin 1024) : BitVec 1 :=
  IntOp.ori (IntOp.cmpi .sle (IntOp.absi (IntOp.subi (BitVec.ofNat 32 i.val) (BitVec.ofNat 32 j.val))) 128#32)
    (IntOp.ori (IntOp.cmpi .slt (BitVec.ofNat 32 j.val) 32#32) (IntOp.cmpi .slt (BitVec.ofNat 32 i.val) 32#32))

/-- Every query sees key 0. -/
theorem seen_zero (i : Fin 128) : seen i 0 = 1#1 := by
  have h : ∀ a b : BitVec 1, IntOp.ori a (IntOp.ori 1#1 b) = 1#1 := by decide
  exact h _ _

/-- The score of query `i` at key `j`: an eighth of their product, or −10⁹ where the query does not see the key. -/
def score (q : Fin 128 → Fin 64 → EReal) (k : Fin 1024 → Fin 64 → EReal) (i : Fin 128) (j : Fin 1024) : EReal :=
  Scalar.select (seen i j) ((∑ e, q i e * k j e) * Ideal.ofBits .f32 0x3E000000#32) (Ideal.ofBits .f32 0xCE6E6B28#32)

/-- A row of scores less its largest, exponentiated; -/
def power (s : Fin 1024 → EReal) (j : Fin 1024) : EReal :=
  Ideal.exp (s j - Finset.univ.fold max (Ideal.ofBits .f32 0xFF800000#32) s)

/-- and divided by the row's sum. -/
def weight (s : Fin 1024 → EReal) (j : Fin 1024) : EReal := Ideal.div (power s j) (∑ l, power s l)

/-- The attention of one head at query `i` and component `d`. -/
def attention (q : Fin 128 → Fin 64 → EReal) (k v : Fin 1024 → Fin 64 → EReal) (i : Fin 128) (d : Fin 64) : EReal :=
  ∑ j, weight (score q k i) j * v j d

variable (x : Fin 2 → Fin 128 → Fin 512 → EReal) (wq : Fin 512 → Fin 2048 → EReal)
  (k v : Fin 2 → Fin 1024 → Fin 32 → Fin 64 → EReal) (wo : Fin 2048 → Fin 512 → EReal)

/-- Component `e` of head `g` among the columns of all heads. -/
def column (g : Fin 32) (e : Fin 64) : Fin 2048 := ⟨64 * g.val + e.val, by omega⟩
/-- The head, and the component, of a column. -/
def headAt (t : Fin 2048) : Fin 32 := ⟨t.val / 64, by omega⟩
def partAt (t : Fin 2048) : Fin 64 := ⟨t.val % 64, by omega⟩

/-- The queries of batch entry `b` and head `g`. -/
def query (b : Fin 2) (g : Fin 32) (i : Fin 128) (e : Fin 64) : EReal := ∑ t, x b i t * wq t (column g e)

/-- The attention of batch entry `b` and head `g`. -/
def head (b : Fin 2) (g : Fin 32) : Fin 128 → Fin 64 → EReal :=
  attention (query x wq b g) (fun j => k b j g) (fun j => v b j g)

/-- The output. -/
def output (b : Fin 2) (i : Fin 128) (n : Fin 512) : EReal :=
  ∑ t, head x wq k v b (headAt t) i (partAt t) * wo t n

end Cert.Attention

end
-- ==== Proof.KernelIdeal.Heads.lean ====
/-
  What one device computes from its queries, the keys and the values of its four heads, written once for every batch
  entry and head: masked attention (`attend`), the eight results side by side (`context`), the product with the device's
  rows of the output weights (`share`), and its eight blocks of columns. `blocks_eq` says that the kernel's own text of
  the blocks, which spells all eight attentions out, is this.
-/
module

public import proofs.«01_k».proof.Proof.KernelIdeal.Phases

@[expose] public section

noncomputable section

namespace Cert.KernelIdeal.Mesh

open Idealize.ShloMosaic Idealize.ShloMosaic.TcCoe Idealize.SL.Sem Cert.KernelIdeal Cert.KernelIdeal.Gen

variable {F : FTy → Type} [FloatOps F]

/-- The scores of one head: the products of queries with keys, scaled, and a large negative number where the mask hides the
    key. -/
def scores (q : FVec F S128x64 .bf16) (k : FVec F S1024x64 .bf16) : FVec F S128x1024 .f32 :=
  select k0_pay21
    (mulf (matmul dot_S128x64_S1024x64_S128x1024_1_1_0_0_n_n none q k (constant S128x1024 .f32 0x00000000#32))
      (broadcast S128x1024 (Scalar.ofBits .f32 0x3E000000#32 : F .f32)))
    (broadcast S128x1024 (Scalar.ofBits .f32 0xCE6E6B28#32 : F .f32))

/-- The scores less each row's largest, exponentiated. -/
def raised (s : FVec F S128x1024 .f32) : FVec F S128x1024 .f32 :=
  exp (subf s (broadcastTo S128x1024 (shapeCast S128x1
    (multiReduction .maximumf [1] S128 s 0xFF800000#32 reduces_S128x1024_S128 (.inl rfl) rfl) shapeCasts_S128_S128x1)
    broadcasts_S128x1_S128x1024))

/-- Each row divided by its sum. -/
def normed (e : FVec F S128x1024 .f32) : FVec F S128x1024 .f32 :=
  divf e (broadcastTo S128x1024 (shapeCast S128x1
    (multiReduction .add [1] S128 e 0x00000000#32 reduces_S128x1024_S128 (.inl rfl) rfl) shapeCasts_S128_S128x1)
    broadcasts_S128x1_S128x1024)

/-- The attention of one head. -/
def attend (q : FVec F S128x64 .bf16) (k v : FVec F S1024x64 .bf16) : FVec F S128x64 .f32 :=
  matmul dot_S128x1024_S1024x64_S128x64_1_0_0_1_n_n none (truncf .bf16 (normed (raised (scores q k))) bitsLt_bf16_f32) v
    (constant S128x64 .f32 0x00000000#32)

/-- Where the queries of batch entry `b` and head `h` lie; where its keys and values lie. -/
theorem cutsQ : ∀ (b : Fin 2) (h : Fin 4), S256x256.Slices ![128 * b.val, 64 * h.val] S128x64 := by decide
theorem cutsK : ∀ (b : Fin 2) (h : Fin 4), S8x2x128x4x64.Slices ![0, b.val, 0, h.val, 0] S8x1x128x1x64 := by decide

/-- The queries of batch entry `b` and head `h`. -/
def queriesOf (Q : FVec F S256x256 .bf16) (b : Fin 2) (h : Fin 4) : FVec F S128x64 .bf16 :=
  extractStridedSlice S128x64 ![128 * b.val, 64 * h.val] Q (cutsQ b h)

/-- The keys, or the values, of batch entry `b` and head `h`, at all 1024 positions. -/
def rowsOf (K : Vec F S8x2x128x4x64 .bf16) (b : Fin 2) (h : Fin 4) : FVec F S1024x64 .bf16 :=
  shapeCast S1024x64 (shapeCast S8x128x64 (extractStridedSlice S8x1x128x1x64 ![0, b.val, 0, h.val, 0] K (cutsK b h))
    shapeCasts_S8x1x128x1x64_S8x128x64) shapeCasts_S8x128x64_S1024x64

/-- The attention of batch entry `b` and head `h`. -/
def headOf (Q : FVec F S256x256 .bf16) (K V : Vec F S8x2x128x4x64 .bf16) (b : Fin 2) (h : Fin 4) : FVec F S128x64 .f32 :=
  attend (queriesOf Q b h) (rowsOf K b h) (rowsOf V b h)

/-- The four heads of batch entry `b` side by side, -/
def entryOf (Q : FVec F S256x256 .bf16) (K V : Vec F S8x2x128x4x64 .bf16) (b : Fin 2) : FVec F S128x256 .f32 :=
  concatenate S128x256 1 [⟨S128x64, headOf Q K V b 0⟩, ⟨S128x64, headOf Q K V b 1⟩, ⟨S128x64, headOf Q K V b 2⟩,
    ⟨S128x64, headOf Q K V b 3⟩] concatenates_S128x64_S128x64_S128x64_S128x64_S128x256_d1

/-- and the two entries one below the other. -/
def context (Q : FVec F S256x256 .bf16) (K V : Vec F S8x2x128x4x64 .bf16) : FVec F S256x256 .f32 :=
  concatenate S256x256 0 [⟨S128x256, entryOf Q K V 0⟩, ⟨S128x256, entryOf Q K V 1⟩] concatenates_S128x256_S128x256_S256x256_d0

/-- The device's share of the output. -/
def share (Q : FVec F S256x256 .bf16) (K V : Vec F S8x2x128x4x64 .bf16) (W : Vec F S256x512 .f32) : FVec F S256x512 .f32 :=
  matmul dot_S256x256_S256x512_S256x512_1_0_0_1_n_n none (context Q K V) (shapeCast S256x512 W shapeCasts_S256x512_S256x512)
    (constant S256x512 .f32 0x00000000#32)

theorem cutsO : ∀ j : Fin 8, S256x512.Slices ![0, 64 * j.val] S256x64 := by decide

set_option maxRecDepth 20000 in
/-- Block `j` is the `j`-th sixty-four columns of the share, rounded. -/
theorem blocks_eq (Q : FVec F S256x256 .bf16) (K V : Vec F S8x2x128x4x64 .bf16) (W : Vec F S256x512 .f32) (j : Fin 8) :
    blocks Q K V W j = shapeCast S1x256x64 (truncf .bf16 (extractStridedSlice S256x64 ![0, 64 * j.val] (share Q K V W) (cutsO j))
      bitsLt_bf16_f32) shapeCasts_S256x64_S1x256x64 := by
  fin_cases j <;> rfl

end Cert.KernelIdeal.Mesh

end
-- ==== Proof.Value.Kernel.lean ====
/-
  What the kernel computes, at an index: device by device the attention of Attention.lean over the device's own queries and
  the keys and values of its four heads, times the device's rows of the output weights, summed over the eight devices.
-/
module

public import proofs.«01_k».proof.Proof.Value.Attention
public import proofs.«01_k».proof.Proof.KernelIdeal.Heads
public import proofs.«01_k».proof.Proof.KernelIdeal.Moves

@[expose] public section

set_option maxRecDepth 16384

noncomputable section

namespace Cert.KernelIdeal.Mesh

open Idealize.ShloMosaic Idealize.ShloMosaic.TcCoe Idealize.SL.Sem Cert.KernelIdeal Cert.KernelIdeal.Gen Cert.Attention

/-! ## One head -/

/-- The two orders in which the three conditions of the mask are joined agree. -/
theorem ori_assoc (a b c : BitVec 1) : IntOp.ori (IntOp.ori a b) c = IntOp.ori a (IntOp.ori b c) := BitVec.or_assoc a b c

theorem scores_apply (q : FVec Ideal S128x64 .bf16) (k : FVec Ideal S1024x64 .bf16) (i : Fin 128) (j : Fin 1024) :
    scores q k (ix2 i j) = score (fun i e => q (ix2 i e)) (fun j e => k (ix2 j e)) i j := by
  pointwise [scores, k0_pay21, score, seen]
  rw [ori_assoc]

theorem raised_apply (s : FVec Ideal S128x1024 .f32) (i : Fin 128) (j : Fin 1024) :
    raised s (ix2 i j) = power (fun j => s (ix2 i j)) j := by
  pointwise [raised, power]

theorem normed_apply (s : FVec Ideal S128x1024 .f32) (i : Fin 128) (j : Fin 1024) :
    normed (raised s) (ix2 i j) = weight (fun j => s (ix2 i j)) j := by
  pointwise [normed, raised_apply, weight]

theorem attend_apply (q : FVec Ideal S128x64 .bf16) (k v : FVec Ideal S1024x64 .bf16) (i : Fin 128) (d : Fin 64) :
    attend q k v (ix2 i d) = attention (fun i e => q (ix2 i e)) (fun j e => k (ix2 j e)) (fun j e => v (ix2 j e)) i d := by
  pointwise [attend]
  simp only [normed_apply, scores_apply]
  rfl

/-! ## One device's share -/

/-- Row and column of the 256 × 256 context, as batch entry and query, head and component. -/
def entryAt (r : Fin 256) : Fin 2 := ⟨r.val / 128, by omega⟩
def rowAt (r : Fin 256) : Fin 128 := ⟨r.val % 128, by omega⟩
def localAt (t : Fin 256) : Fin 4 := ⟨t.val / 64, by omega⟩
def compAt (t : Fin 256) : Fin 64 := ⟨t.val % 64, by omega⟩

theorem headOf_at (Q : FVec Ideal S256x256 .bf16) (K V : Vec Ideal S8x2x128x4x64 .bf16) {b b' : Fin 2} {h h' : Fin 4} {i i' : Fin 128}
    {d d' : Fin 64} (hb : b.val = b'.val) (hh : h.val = h'.val) (hi : i.val = i'.val) (hd : d.val = d'.val) :
    headOf Q K V b h (ix2 i d) = headOf Q K V b' h' (ix2 i' d') := by
  rw [Fin.ext hb, Fin.ext hh, Fin.ext hi, Fin.ext hd]

/-- The context holds each head's attention in its place. -/
theorem context_apply (Q : FVec Ideal S256x256 .bf16) (K V : Vec Ideal S8x2x128x4x64 .bf16) (r t : Fin 256) :
    context Q K V (ix2 r t) = headOf Q K V (entryAt r) (localAt t) (ix2 (rowAt r) (compAt t)) := by
  have hr := r.isLt
  have ht := t.isLt
  pointwise [context, entryOf]
  split_ifs <;> refine headOf_at Q K V ?_ ?_ ?_ ?_ <;> simp [entryAt, rowAt, localAt, compAt] <;> omega

theorem headOf_apply (Q : FVec Ideal S256x256 .bf16) (K V : Vec Ideal S8x2x128x4x64 .bf16) (b : Fin 2) (h : Fin 4) (i : Fin 128)
    (d : Fin 64) : headOf Q K V b h (ix2 i d)
      = attention (fun i e => Q (ix2 ⟨128 * b.val + i.val, by omega⟩ ⟨64 * h.val + e.val, by omega⟩))
          (fun p e => K (ix5 ⟨p.val / 128, by omega⟩ b ⟨p.val % 128, by omega⟩ h e))
          (fun p e => V (ix5 ⟨p.val / 128, by omega⟩ b ⟨p.val % 128, by omega⟩ h e)) i d := by
  have hQ : ∀ (i : Fin 128) (e : Fin 64), queriesOf Q b h (ix2 i e) = Q (ix2 ⟨128 * b.val + i.val, by omega⟩ ⟨64 * h.val + e.val, by omega⟩) := by
    intro i e
    pointwise [queriesOf]
  have hK : ∀ (K : Vec Ideal S8x2x128x4x64 .bf16) (p : Fin 1024) (e : Fin 64), rowsOf K b h (ix2 p e) = K (ix5 ⟨p.val / 128, by omega⟩ b ⟨p.val % 128, by omega⟩ h e) := by
    intro K p e
    pointwise [rowsOf]
  unfold headOf
  rw [attend_apply]
  simp only [hQ, hK]

theorem share_apply (Q : FVec Ideal S256x256 .bf16) (K V : Vec Ideal S8x2x128x4x64 .bf16) (W : Vec Ideal S256x512 .f32) (r : Fin 256)
    (n : Fin 512) : share Q K V W (ix2 r n)
      = ∑ t, headOf Q K V (entryAt r) (localAt t) (ix2 (rowAt r) (compAt t)) * W (ix2 t n) := by
  pointwise [share, context_apply]

theorem projection_apply (x : Vec Ideal S2x128x512 .f32) (w : Vec Ideal S512x256 .f32) (r t : Fin 256) :
    k0_pay20 x w (ix2 r t) = ∑ u, x (ix3 (entryAt r) (rowAt r) u) * w (ix2 u t) := by
  pointwise [k0_pay20, entryAt, rowAt]

/-! ## What travels -/

theorem heads_apply (X : Vec Ideal S2x128x32x64 .f32) (j : Dev nD) (b : Fin 2) (i : Fin 128) (h : Fin 4) (e : Fin 64) :
    heads X j (ix4 b i h e) = X (ix4 b i ⟨4 * j.val + h.val, by have := j.isLt; have : nD = 8 := rfl; omega⟩ e) := by
  change shapeCast S2x128x4x64 (k0_pay1 (F := Ideal) fun a => X ((rectH j).emb a)) squeezes_S1x2x128x4x64_S2x128x4x64.numel_eq (ix4 b i h e) = _
  pointwise [k0_pay1]
  refine congrArg X (funext fun a => Fin.ext ?_)
  fin_cases a <;> simp [rectH]

variable (J : Inputs Ideal)

theorem keys_apply (c : Dev nD) (p : Fin 8) (b : Fin 2) (i : Fin 128) (h : Fin 4) (e : Fin 64) :
    keys J c (ix5 p b i h e) = J.k p (ix4 b i ⟨4 * c.val + h.val, by have := c.isLt; have : nD = 8 := rfl; omega⟩ e) := by
  have h4 : (fun a : Fin 4 => (ix5 p b i h e : S8x2x128x4x64.Idx) a.succ) = (ix4 b i h e : S2x128x4x64.Idx) := by
    funext a; fin_cases a <;> rfl
  exact (congrArg (heads (J.k p) c) h4).trans (heads_apply _ _ _ _ _ _)

theorem vals_apply (c : Dev nD) (p : Fin 8) (b : Fin 2) (i : Fin 128) (h : Fin 4) (e : Fin 64) :
    vals J c (ix5 p b i h e) = J.v p (ix4 b i ⟨4 * c.val + h.val, by have := c.isLt; have : nD = 8 := rfl; omega⟩ e) := by
  have h4 : (fun a : Fin 4 => (ix5 p b i h e : S8x2x128x4x64.Idx) a.succ) = (ix4 b i h e : S2x128x4x64.Idx) := by
    funext a; fin_cases a <;> rfl
  exact (congrArg (heads (J.v p) c) h4).trans (heads_apply _ _ _ _ _ _)

/-- Device `c`'s share of the output. -/
def portion (c : Dev nD) : FVec Ideal S256x512 .f32 := share (k0_pay20 (J.x c) (J.wq c)) (keys J c) (vals J c) (J.wo c)

theorem mine_apply (c : Dev nD) (j : Fin 8) (r : Fin 256) (d : Fin 64) :
    mine J c j (ix2 r d) = portion J c (ix2 r ⟨64 * j.val + d.val, by omega⟩) := by
  change shapeCast S256x64 (partials J c j) squeezes_S1x256x64_S256x64.numel_eq (ix2 r d) = _
  unfold partials
  rw [blocks_eq]
  change shapeCast S256x64 (shapeCast S1x256x64 (truncf .bf16 (extractStridedSlice S256x64 ![0, 64 * j.val] (portion J c) (cutsO j)) bitsLt_bf16_f32) shapeCasts_S256x64_S1x256x64) squeezes_S1x256x64_S256x64.numel_eq (ix2 r d) = _
  pointwise []

theorem summed_apply (j : Dev nD) (r : Fin 256) (d : Fin 64) :
    summed J j (ix2 r d) = ∑ c : Fin 8, portion J c (ix2 r ⟨64 * j.val + d.val, by have := j.isLt; have : nD = 8 := rfl; omega⟩) := by
  unfold summed
  pointwise [k0_pay49]
  refine Finset.sum_congr rfl fun c _ => ?_
  have h2 : (fun a : Fin 2 => (ix3 c r d : S8x256x64.Idx) a.succ) = (ix2 r d : S256x64.Idx) := by
    funext a; fin_cases a <;> rfl
  exact (congrArg (mine J c j) h2).trans (mine_apply J c j r d)

theorem gathered_apply (j : Fin 8) (r : Fin 256) (d : Fin 64) :
    gatherR (summed J) ((rectR j).emb (ix3 (0 : Fin 1) r d : S1x256x64.Idx)) = ∑ c : Fin 8, portion J c (ix2 r ⟨64 * j.val + d.val, by omega⟩) := by
  have h0 : (rectR j).emb (ix3 (0 : Fin 1) r d : S1x256x64.Idx) = (ix3 j r d : S8x256x64.Idx) := by
    funext a; refine Fin.ext ?_; fin_cases a <;> simp [rectR]
  rw [h0]
  have h2 : (fun a : Fin 2 => (ix3 j r d : S8x256x64.Idx) a.succ) = (ix2 r d : S256x64.Idx) := by
    funext a; fin_cases a <;> rfl
  exact (congrArg (summed J j) h2).trans (summed_apply J j r d)

theorem joined_at (a : Fin 8 → Vec Ideal S1x256x64 .bf16) {j j' : Fin 8} {r r' : Fin 256} {d d' : Fin 64} (hj : j.val = j'.val)
    (hr : r.val = r'.val) (hd : d.val = d'.val) : a j (ix3 (0 : Fin 1) r d) = a j' (ix3 (0 : Fin 1) r' d') := by
  rw [Fin.ext hj, Fin.ext hr, Fin.ext hd]

/-- The eight blocks side by side. -/
theorem joined_apply (a : Fin 8 → Vec Ideal S1x256x64 .bf16) (b : Fin 2) (i : Fin 128) (n : Fin 512) :
    joined a (ix3 b i n) = a ⟨n.val / 64, by omega⟩ (ix3 (0 : Fin 1) ⟨128 * b.val + i.val, by omega⟩ ⟨n.val % 64, by omega⟩) := by
  have hn := n.isLt
  pointwise [joined, k0_pay55, k0_pay50, k0_pay51, k0_pay52, k0_pay53, k0_pay54]
  split_ifs <;> refine joined_at a ?_ ?_ ?_ <;> simp <;> omega

/-- The kernel's output at an index: the devices' shares, summed. -/
theorem outcome_apply (b : Fin 2) (i : Fin 128) (n : Fin 512) :
    outcome J (ix3 b i n) = ∑ c : Fin 8, portion J c (ix2 ⟨128 * b.val + i.val, by omega⟩ n) := by
  unfold outcome
  rw [joined_apply]
  refine (gathered_apply J _ _ _).trans (Finset.sum_congr rfl fun c _ => ?_)
  refine congrArg (fun n => portion J c (ix2 _ n)) (Fin.ext ?_)
  change 64 * (n.val / 64) + n.val % 64 = n.val
  omega

/-- One device's share at an index. -/
theorem portion_apply (c : Dev nD) (b : Fin 2) (i : Fin 128) (n : Fin 512) :
    portion J c (ix2 ⟨128 * b.val + i.val, by omega⟩ n)
      = ∑ t, attention (fun i e => ∑ u, J.x c (ix3 b i u) * J.wq c (ix2 u ⟨64 * (localAt t).val + e.val, by omega⟩))
          (fun p e => J.k ⟨p.val / 128, by have : nD = 8 := rfl; omega⟩ (ix4 b ⟨p.val % 128, by omega⟩ ⟨4 * c.val + (localAt t).val, by have := c.isLt; have : nD = 8 := rfl; omega⟩ e))
          (fun p e => J.v ⟨p.val / 128, by have : nD = 8 := rfl; omega⟩ (ix4 b ⟨p.val % 128, by omega⟩ ⟨4 * c.val + (localAt t).val, by have := c.isLt; have : nD = 8 := rfl; omega⟩ e))
          i (compAt t) * J.wo c (ix2 t n) := by
  have he : ∀ i : Fin 128, entryAt ⟨128 * b.val + i.val, by omega⟩ = b := fun i => Fin.ext (by simp only [entryAt]; omega)
  have hr : ∀ i : Fin 128, rowAt ⟨128 * b.val + i.val, by omega⟩ = i := fun i => Fin.ext (by simp only [rowAt]; omega)
  unfold portion
  rw [share_apply]
  simp only [headOf_apply, projection_apply, keys_apply, vals_apply, he, hr]

end Cert.KernelIdeal.Mesh

end
-- ==== Proof.Value.Equation.lean ====
/-
  The equation: when every device holds its piece of the arrays, as the kernel's sharding cuts them, the devices' shares sum
  to the output over the whole arrays. The 2048 columns of all heads are the eight devices' 256 each, and device `c`'s
  head `h` is head `4c + h`.
-/
module

public import proofs.«01_k».proof.Proof.Value.Kernel

@[expose] public section

set_option maxRecDepth 16384

noncomputable section

namespace Cert.KernelIdeal.Mesh

open Idealize.ShloMosaic Idealize.ShloMosaic.TcCoe Idealize.SL.Sem Cert.KernelIdeal Cert.KernelIdeal.Gen Cert.Attention

/-- A sum over the 2048 columns, device by device. -/
theorem sum_columns (f : Fin 2048 → EReal) : ∑ t, f t = ∑ c : Fin 8, ∑ t : Fin 256, f ⟨256 * c.val + t.val, by omega⟩ := by
  rw [← Fintype.sum_prod_type']
  refine (Fintype.sum_equiv (finProdFinEquiv (m := 8) (n := 256)) _ _ fun p => congrArg f (Fin.ext ?_)).symm
  change 256 * p.1.val + p.2.val = p.2.val + 256 * p.1.val
  omega

/-- The whole arrays of which the devices hold pieces. -/
structure Arrays where
  x : Vec Ideal S2x128x512 .f32
  wq : (⟨2, ![512, 2048]⟩ : Shape).Idx → EReal
  k : (⟨4, ![2, 1024, 32, 64]⟩ : Shape).Idx → EReal
  v : (⟨4, ![2, 1024, 32, 64]⟩ : Shape).Idx → EReal
  wo : (⟨2, ![2048, 512]⟩ : Shape).Idx → EReal

variable (A : Arrays)

/-- The output over the whole arrays. -/
def Arrays.output (b : Fin 2) (i : Fin 128) (n : Fin 512) : EReal :=
  Attention.output (fun b i t => A.x (ix3 b i t)) (fun t n => A.wq (ix2 t n)) (fun b j g e => A.k (ix4 b j g e))
    (fun b j g e => A.v (ix4 b j g e)) (fun t n => A.wo (ix2 t n)) b i n

/-- Device `c`'s 128 positions of the keys, or of the values. -/
def positions (c : Fin 8) (K : (⟨4, ![2, 1024, 32, 64]⟩ : Shape).Idx → EReal) : (⟨4, ![2, 128, 32, 64]⟩ : Shape).Idx → EReal :=
  Layout.block ⟨4, ![2, 128, 32, 64]⟩ ⟨4, ![2, 1024, 32, 64]⟩ 1 8 c K

/-- The devices' pieces: `x` whole, `wq` by columns, `k` and `v` by positions, `wo` by rows. -/
def pieces : Inputs Ideal where
  x _ := A.x
  wq c := Layout.block ⟨2, ![512, 256]⟩ ⟨2, ![512, 2048]⟩ 1 8 c A.wq
  k c := positions c A.k
  v c := positions c A.v
  wo c := Layout.block ⟨2, ![256, 512]⟩ ⟨2, ![2048, 512]⟩ 0 8 c A.wo

theorem pieces_wq (c : Fin 8) (u : Fin 512) (t : Fin 256) :
    (pieces A).wq c (ix2 u t) = A.wq (ix2 u ⟨256 * c.val + t.val, by omega⟩) := by
  refine congrArg A.wq (funext fun a => Fin.ext ?_)
  fin_cases a
  · rfl
  · exact congrArg (· + t.val) (Nat.mul_comm c.val 256)

theorem pieces_wo (c : Fin 8) (t : Fin 256) (n : Fin 512) :
    (pieces A).wo c (ix2 t n) = A.wo (ix2 ⟨256 * c.val + t.val, by omega⟩ n) := by
  refine congrArg A.wo (funext fun a => Fin.ext ?_)
  fin_cases a
  · exact congrArg (· + t.val) (Nat.mul_comm c.val 256)
  · rfl

/-- Position `p` lies on device `p / 128` at place `p % 128`. -/
theorem pieces_at (K : (⟨4, ![2, 1024, 32, 64]⟩ : Shape).Idx → EReal) (b : Fin 2) (p : Fin 1024) (g : Fin 32) (e : Fin 64) :
    positions (⟨p.val / 128, by omega⟩ : Fin 8) K (ix4 b (⟨p.val % 128, by omega⟩ : Fin 128) g e) = K (ix4 b p g e) := by
  refine congrArg K (funext fun a => Fin.ext ?_)
  fin_cases a
  · rfl
  · change p.val / 128 * 128 + p.val % 128 = p.val
    omega
  · rfl
  · rfl

/-- One device's share is its columns' part of the whole sum. -/
theorem portion_pieces (c : Fin 8) (b : Fin 2) (i : Fin 128) (n : Fin 512) :
    portion (pieces A) c (ix2 ⟨128 * b.val + i.val, by omega⟩ n)
      = ∑ t : Fin 256, head (fun b i t => A.x (ix3 b i t)) (fun t n => A.wq (ix2 t n)) (fun b j g e => A.k (ix4 b j g e))
          (fun b j g e => A.v (ix4 b j g e)) b (headAt ⟨256 * c.val + t.val, by omega⟩) i (partAt ⟨256 * c.val + t.val, by omega⟩)
        * A.wo (ix2 ⟨256 * c.val + t.val, by omega⟩ n) := by
  refine (portion_apply (pieces A) c b i n).trans (Finset.sum_congr rfl fun t _ => ?_)
  have hg : (⟨4 * c.val + (localAt t).val, by omega⟩ : Fin 32) = headAt ⟨256 * c.val + t.val, by omega⟩ :=
    Fin.ext (by simp only [headAt, localAt]; omega)
  have hd : compAt t = partAt ⟨256 * c.val + t.val, by omega⟩ := Fin.ext (by simp only [compAt, partAt]; omega)
  have hq : ∀ e : Fin 64, (⟨256 * c.val + (64 * (localAt t).val + e.val), by omega⟩ : Fin 2048)
      = column (headAt ⟨256 * c.val + t.val, by omega⟩) e := fun e => Fin.ext (by simp only [column, headAt, localAt]; omega)
  rw [pieces_wo, ← hd]
  refine congrArg (· * _) ?_
  unfold head
  rw [← hg] at hq ⊢
  have h1 : (fun (i : Fin 128) (e : Fin 64) => ∑ u, (pieces A).x c (ix3 b i u) * (pieces A).wq c (ix2 u ⟨64 * (localAt t).val + e.val, by omega⟩))
      = query (fun b i t => A.x (ix3 b i t)) (fun t n => A.wq (ix2 t n)) b ⟨4 * c.val + (localAt t).val, by omega⟩ := by
    funext i e
    refine Finset.sum_congr rfl fun u _ => ?_
    rw [pieces_wq, ← hq e]
    rfl
  have h2 : ∀ K : (⟨4, ![2, 1024, 32, 64]⟩ : Shape).Idx → EReal,
      (fun (p : Fin 1024) (e : Fin 64) => positions (⟨p.val / 128, by omega⟩ : Fin 8) K
        (ix4 b (⟨p.val % 128, by omega⟩ : Fin 128) (⟨4 * c.val + (localAt t).val, by omega⟩ : Fin 32) e))
      = fun p e => K (ix4 b p ⟨4 * c.val + (localAt t).val, by omega⟩ e) := fun K => funext fun p => funext fun e => pieces_at K b p _ e
  have h3 : ∀ {q q' : Fin 128 → Fin 64 → EReal} {k k' v v' : Fin 1024 → Fin 64 → EReal}, q = q' → k = k' → v = v' →
      attention q k v i (compAt t) = attention q' k' v' i (compAt t) := by
    rintro q _ k _ v _ rfl rfl rfl
    rfl
  exact h3 h1 (h2 A.k) (h2 A.v)

/-- The kernel's output is the output over the whole arrays. -/
theorem outcome_pieces (b : Fin 2) (i : Fin 128) (n : Fin 512) : outcome (pieces A) (ix3 b i n) = A.output b i n := by
  refine (outcome_apply (pieces A) b i n).trans ?_
  refine Eq.trans (Finset.sum_congr rfl fun c _ => portion_pieces A c b i n) ?_
  exact (sum_columns fun t => head (fun b i t => A.x (ix3 b i t)) (fun t n => A.wq (ix2 t n)) (fun b j g e => A.k (ix4 b j g e))
    (fun b j g e => A.v (ix4 b j g e)) b (headAt t) i (partAt t) * A.wo (ix2 t n)).symm

end Cert.KernelIdeal.Mesh

end
-- ==== Proof.Value.Reference.lean ====
/-
  What the reference computes: its result at an index is the attention of Attention.lean over the whole arrays.
-/
module

public import proofs.«01_k».proof.Proof.Value.Attention
public import proofs.«01_k».proof.Proof.Gen.ReferenceIdeal.Run
public import Idealize.ShloMosaic.Lib.Routing.OpsOrder

@[expose] public section

set_option maxRecDepth 16384

noncomputable section

namespace Cert.ReferenceIdeal.Whole

open Idealize.ShloMosaic Idealize.ShloMosaic.TcCoe Idealize.SL.Sem Idealize.ShloMosaic.StableHlo
open Cert.ReferenceIdeal Cert.ReferenceIdeal.Gen Cert.Attention

/-- Which keys each query sees. -/
def mask : IVec S128x1024 1 :=
  ori (cmpi .sle (absi (subi (broadcastInDim S128x1024 ![0, 1] bcast_S128x1_S128x1024_0_1 (broadcastInDim S128x1 ![0] bcast_S128_S128x1_0 (iotaInDim S128 32 0)))
      (broadcastInDim S128x1024 ![0, 1] bcast_S1x1024_S128x1024_0_1 (broadcastInDim S1x1024 ![1] bcast_S1024_S1x1024_1 (iotaInDim S1024 32 0)))))
      (broadcastInDim S128x1024 ![] bcast_S_S128x1024 (constantI S_ 32 128#32)))
    (ori (broadcastInDim S128x1024 ![0, 1] bcast_S1x1024_S128x1024_0_1 (cmpi .slt (broadcastInDim S1x1024 ![1] bcast_S1024_S1x1024_1 (iotaInDim S1024 32 0)) (broadcastInDim S1x1024 ![] bcast_S_S1x1024 (constantI S_ 32 32#32))))
      (broadcastInDim S128x1024 ![0, 1] bcast_S128x1_S128x1024_0_1 (cmpi .slt (broadcastInDim S128x1 ![0] bcast_S128_S128x1_0 (iotaInDim S128 32 0)) (broadcastInDim S128x1 ![] bcast_S_S128x1 (constantI S_ 32 32#32)))))

/-- Which queries see a key at all: every one does. -/
def kept : IVec S128 1 := Host.reduce IntOp.ori mask (constantI S_ 1 0#1) reducesTo_S128x1024_S128_d1 h_S_

variable (x : FVec Ideal S2x128x512 .f32) (wq : FVec Ideal S512x2048 .f32) (k v : FVec Ideal S2x1024x32x64 .f32)
  (wo : FVec Ideal S2048x512 .f32)

/-- The queries, cut into heads. -/
def queries : FVec Ideal S2x128x32x64 .f32 :=
  shapeCast S2x128x32x64 (Host.dotGeneral dot_S2x128x512_S512x2048_S2x128x2048_2_0_01_1_n_n none x wq) shapeCasts_S2x128x2048_S2x128x32x64

/-- The masked scores from the queries; -/
def scores (q : FVec Ideal S2x128x32x64 .f32) : FVec Ideal S2x32x128x1024 .f32 :=
  select (broadcastInDim S2x32x128x1024 ![0, 1, 2, 3] bcast_S1x1x128x1024_S2x32x128x1024_0_1_2_3 (broadcastInDim S1x1x128x1024 ![2, 3] bcast_S128x1024_S1x1x128x1024_2_3 mask))
    (mulf (Host.dotGeneral dot_S2x128x32x64_S2x1024x32x64_S2x32x128x1024_3_3_1_1_02_02 none q k) (broadcastInDim S2x32x128x1024 ![] bcast_S_S2x32x128x1024 (constant S_ .f32 0x3E000000#32)))
    (broadcastInDim S2x32x128x1024 ![] bcast_S_S2x32x128x1024 (id (constant S_ .f32 0xCE6E6B28#32)))

/-- the scores less each row's largest, exponentiated; -/
def powers (s : FVec Ideal S2x32x128x1024 .f32) : FVec Ideal S2x32x128x1024 .f32 :=
  Host.exp (subf s (broadcastInDim S2x32x128x1024 ![0, 1, 2, 3] bcast_S2x32x128x1_S2x32x128x1024_0_1_2_3
    (broadcastInDim S2x32x128x1 ![0, 1, 2] bcast_S2x32x128_S2x32x128x1_0_1_2
      (Host.reduce FloatOps.maximumf s (constant S_ .f32 0xFF800000#32) reducesTo_S2x32x128x1024_S2x32x128_d3 h_S_))))

/-- the weights, with the reference's provision for a query that sees no key; -/
def weights (e : FVec Ideal S2x32x128x1024 .f32) : FVec Ideal S2x32x128x1024 .f32 :=
  select (broadcastInDim S2x32x128x1024 ![0, 1, 2, 3] bcast_S1x1x128x1_S2x32x128x1024_0_1_2_3 (broadcastInDim S1x1x128x1 ![2] bcast_S128_S1x1x128x1_2 kept))
    (Host.divf e (broadcastInDim S2x32x128x1024 ![0, 1, 2, 3] bcast_S2x32x128x1_S2x32x128x1024_0_1_2_3
      (select (broadcastInDim S2x32x128x1 ![0, 1, 2, 3] bcast_S1x1x128x1_S2x32x128x1_0_1_2_3 (broadcastInDim S1x1x128x1 ![2] bcast_S128_S1x1x128x1_2 kept))
        (broadcastInDim S2x32x128x1 ![0, 1, 2] bcast_S2x32x128_S2x32x128x1_0_1_2 (Host.reduceAdd e (constant S_ .f32 0x00000000#32) reducesTo_S2x32x128x1024_S2x32x128_d3 h_S_))
        (broadcastInDim S2x32x128x1 ![] bcast_S_S2x32x128x1 (id (constant S_ .f32 0x3F800000#32))))))
    (broadcastInDim S2x32x128x1024 ![] bcast_S_S2x32x128x1024 (id (constant S_ .f32 0x00000000#32)))

/-- and the output from the weights. -/
def projected (w : FVec Ideal S2x32x128x1024 .f32) : FVec Ideal S2x128x512 .f32 :=
  Host.dotGeneral dot_S2x128x2048_S2048x512_S2x128x512_2_0_01_1_n_n none
    (shapeCast S2x128x2048 (transpose S2x128x32x64 [0, 3, 1, 2] (Host.dotGeneral dot_S2x1024x32x64_S2x32x128x1024_S2x32x64x128_1_3_3_2_02_01 none v w) transposes_S2x32x64x128_S2x128x32x64_0_3_1_2) shapeCasts_S2x128x32x64_S2x128x2048) wo

/-- The reference's result is these steps, one after the other. -/
theorem res_eq (m : (ℓ : Loc nD τ sig) → Buf (Elt Ideal) ℓ) (c : Dev nD) : Cert.ReferenceIdeal.Value.res_main_v42 m c
    = projected (m ((c.tc : Thread nD τ).loc main_arg3)) (m ((c.tc : Thread nD τ).loc main_arg4))
        (weights (powers (scores (m ((c.tc : Thread nD τ).loc main_arg2))
          (queries (m ((c.tc : Thread nD τ).loc main_arg0)) (m ((c.tc : Thread nD τ).loc main_arg1)))))) := rfl

theorem mask_apply (i : Fin 128) (j : Fin 1024) : mask (ix2 i j) = seen i j := by
  pointwise [mask, seen]

theorem kept_apply (i : Fin 128) : kept (ix1 i) = 1#1 := by
  pointwise [kept]
  rw [Routing.fold_ori]
  exact ⟨0, Finset.mem_univ _, seen_zero i⟩

theorem queries_apply (b : Fin 2) (i : Fin 128) (g : Fin 32) (e : Fin 64) :
    queries x wq (ix4 b i g e) = query (fun b i t => x (ix3 b i t)) (fun t n => wq (ix2 t n)) b g i e := by
  pointwise [queries, query, column]
  simp only [Nat.mul_comm]

theorem scores_apply (q : FVec Ideal S2x128x32x64 .f32) (b : Fin 2) (g : Fin 32) (i : Fin 128) (j : Fin 1024) :
    scores k q (ix4 b g i j) = score (fun i e => q (ix4 b i g e)) (fun j e => k (ix4 b j g e)) i j := by
  pointwise [scores, score, mask_apply]
  rfl

theorem powers_apply (s : FVec Ideal S2x32x128x1024 .f32) (b : Fin 2) (g : Fin 32) (i : Fin 128) (j : Fin 1024) :
    powers s (ix4 b g i j) = power (fun j => s (ix4 b g i j)) j := by
  pointwise [powers, power]

theorem weights_apply (s : FVec Ideal S2x32x128x1024 .f32) (b : Fin 2) (g : Fin 32) (i : Fin 128) (j : Fin 1024) :
    weights (powers s) (ix4 b g i j) = weight (fun j => s (ix4 b g i j)) j := by
  pointwise [weights, weight, kept_apply, powers_apply]

theorem projected_apply (w : FVec Ideal S2x32x128x1024 .f32) (b : Fin 2) (i : Fin 128) (n : Fin 512) :
    projected v wo w (ix3 b i n) = ∑ t, (∑ j, w (ix4 b (headAt t) i j) * v (ix4 b j (headAt t) (partAt t))) * wo (ix2 t n) := by
  pointwise [projected, headAt, partAt]
  refine Finset.sum_congr rfl fun t _ => congrArg (· * _) (Finset.sum_congr rfl fun j _ => mul_comm _ _)

/-- The reference's result at an index is the attention of the whole arrays. -/
theorem res_apply (m : (ℓ : Loc nD τ sig) → Buf (Elt Ideal) ℓ) (c : Dev nD) (b : Fin 2) (i : Fin 128) (n : Fin 512) :
    Cert.ReferenceIdeal.Value.res_main_v42 m c (ix3 b i n)
      = output (fun b i t => m ((c.tc : Thread nD τ).loc main_arg0) (ix3 b i t))
          (fun t n => m ((c.tc : Thread nD τ).loc main_arg1) (ix2 t n))
          (fun b j g e => m ((c.tc : Thread nD τ).loc main_arg2) (ix4 b j g e))
          (fun b j g e => m ((c.tc : Thread nD τ).loc main_arg3) (ix4 b j g e))
          (fun t n => m ((c.tc : Thread nD τ).loc main_arg4) (ix2 t n)) b i n := by
  rw [res_eq, projected_apply]
  simp only [weights_apply, scores_apply, queries_apply]
  rfl

end Cert.ReferenceIdeal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

public import proofs.«01_k».proof.Proof.Gen.ReferenceIdeal.Run
public import proofs.«01_k».proof.Proof.Kernel.Result
public import proofs.«01_k».proof.Proof.KernelIdeal.Result
public import proofs.«01_k».proof.Proof.Value.Equation
public import proofs.«01_k».proof.Proof.Value.Reference

@[expose] public section

noncomputable section

namespace Cert.Proof

open Idealize.ShloMosaic Idealize.SL.Sem Cert.Kernel

/-- The kernel as it is written, on bit patterns: from any memory every execution on the eight devices ends, no argument
    array has changed, and every semaphore counter is back at zero. -/
theorem frame_kernel : Cert.quiescent_Kernel := fun m g _ =>
  (θ_run Cert.Kernel.defs _ _).mono (fun _ h => ⟨fun c => (h.1 c).1, h.2⟩) (Cert.Kernel.Mesh.computes (F := Bits) m g)

/-- The same of the kernel read in exact arithmetic. -/
theorem frame_ideal : Cert.quiescent_KernelIdeal := fun m g _ =>
  (θ_run Cert.KernelIdeal.defs _ _).mono (fun _ h => ⟨fun c => (h.1 c).1, h.2⟩)
    (Cert.KernelIdeal.Mesh.computes (F := Ideal) m g)

/-- The reference ends, leaves its arguments alone, and has no semaphore that could be left nonzero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Reading the kernel in exact arithmetic replaced none of its operations. -/
theorem preserves : Cert.preserves_Kernel_KernelIdeal := trivial

/-- In exact arithmetic every device ends with the reference's result, when the devices start with their pieces of the
    reference's arrays. -/
theorem algebraic : Cert.algebraic_KernelIdeal_ReferenceIdeal := by
  intro m g m' g' _ pieces
  let A : Cert.KernelIdeal.Mesh.Arrays :=
    ⟨m' (((0 : Dev Cert.ReferenceIdeal.nD).tc : Thread _ Cert.ReferenceIdeal.τ).loc Cert.ReferenceIdeal.main_arg0),
      m' (((0 : Dev Cert.ReferenceIdeal.nD).tc : Thread _ Cert.ReferenceIdeal.τ).loc Cert.ReferenceIdeal.main_arg1),
      m' (((0 : Dev Cert.ReferenceIdeal.nD).tc : Thread _ Cert.ReferenceIdeal.τ).loc Cert.ReferenceIdeal.main_arg2),
      m' (((0 : Dev Cert.ReferenceIdeal.nD).tc : Thread _ Cert.ReferenceIdeal.τ).loc Cert.ReferenceIdeal.main_arg3),
      m' (((0 : Dev Cert.ReferenceIdeal.nD).tc : Thread _ Cert.ReferenceIdeal.τ).loc Cert.ReferenceIdeal.main_arg4)⟩
  have hA : Cert.KernelIdeal.Mesh.args m = Cert.KernelIdeal.Mesh.pieces A := by
    unfold Cert.KernelIdeal.Mesh.args Cert.KernelIdeal.Mesh.pieces
    congr 1 <;> funext c
    · exact (pieces c).1
    · exact (pieces c).2.1
    · exact (pieces c).2.2.1
    · exact (pieces c).2.2.2.1
    · exact (pieces c).2.2.2.2
  have hv : Cert.KernelIdeal.Mesh.outcome (Cert.KernelIdeal.Mesh.args m) = Cert.ReferenceIdeal.Value.res_main_v42 m' 0 := by
    rw [hA]
    funext i
    obtain ⟨b, r, n, rfl⟩ : ∃ (b : Fin 2) (r : Fin 128) (n : Fin 512), i = ix3 b r n := ⟨i 0, i 1, i 2, eq_ix3 i⟩
    exact (Cert.KernelIdeal.Mesh.outcome_pieces A b r n).trans (Cert.ReferenceIdeal.Whole.res_apply m' 0 b r n).symm
  exact ⟨Cert.ReferenceIdeal.Value.res_main_v42 m' 0,
    (θ_run Cert.KernelIdeal.defs _ _).mono (fun _ h c => ⟨(h.1 c).2.trans hv, (h.1 c).1⟩) (Cert.KernelIdeal.Mesh.computes m g),
    (θ_run Cert.ReferenceIdeal.defs _ _).mono (fun _ h => h 0) (Cert.ReferenceIdeal.Value.run (F := Ideal) m' g')⟩

/-- All five claims. -/
theorem claim : Cert.Claim :=
  ⟨Cert.Kernel.Gen.facts, Cert.KernelIdeal.Gen.facts, Cert.ReferenceIdeal.Gen.facts, frame_kernel, frame_ideal,
    frame_reference, preserves, algebraic⟩

end Cert.Proof

end
